-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_d" .f32 0x38638E39#32 ((1 / 18432 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x1024x18432 : Shape := ⟨3, ![2, 1024, 18432]⟩
abbrev S2x1024x144 : Shape := ⟨3, ![2, 1024, 144]⟩
abbrev S2x1024 : Shape := ⟨2, ![2, 1024]⟩
abbrev S18432 : Shape := ⟨1, ![18432]⟩
abbrev S_ : Shape := ⟨0, ![]⟩

class Facts : Prop where
  natLt_8_32 : 8 < 32
  bcast_S_S2x1024x18432 : S_.BroadcastsInDim S2x1024x18432 (![] : Fin 0 → Fin S2x1024x18432.rank)
  bcast_S_S2x1024x144 : S_.BroadcastsInDim S2x1024x144 (![] : Fin 0 → Fin S2x1024x144.rank)
  bcast_S_S2x1024 : S_.BroadcastsInDim S2x1024 (![] : Fin 0 → Fin S2x1024.rank)

variable [Facts]

def fn_part1 {F : FTy → Type} [FloatOps F] (main_v4 : IVec S2x1024x18432 1) (main_v7 : IVec S2x1024x144 1) (main_v12 : IVec S2x1024x18432 1) (main_v15 : IVec S2x1024 1) (main_v16 : FVec F S2x1024 .f32) (main_cst_4 : FVec F S_ .f32) : IVec S2x1024x18432 1 × IVec S2x1024x144 1 × IVec S2x1024x18432 1 × IVec S2x1024 1 × IVec S2x1024 1 :=
  let main_v17 : FVec F S2x1024 .f32 := broadcastInDim S2x1024 ![] bcast_S_S2x1024 main_cst_4
  let main_v18 : IVec S2x1024 1 := cmpf .olt main_v16 main_v17
  (main_v4, main_v7, main_v12, main_v15, main_v18)

def fn {F : FTy → Type} [FloatOps F] (main_arg0 : IVec S2x1024x18432 8) (main_arg1 : FVec F S2x1024x144 .f32) (main_arg2 : IVec S2x1024x18432 8) (main_arg3 : FVec F S2x1024 .f32) (main_arg4 : FVec F S2x1024 .f32) (main_arg5 : FVec F S18432 .f32) : IVec S2x1024x18432 1 × IVec S2x1024x144 1 × IVec S2x1024x18432 1 × IVec S2x1024 1 × IVec S2x1024 1 :=
  let main_v0 : IVec S2x1024x18432 32 := (extui 32 · natLt_8_32) main_arg0
  let main_c : IVec S_ 32 := constantI S_ 32 127#32
  let main_v1 : IVec S2x1024x18432 32 := broadcastInDim S2x1024x18432 ![] bcast_S_S2x1024x18432 main_c
  let main_v2 : IVec S2x1024x18432 32 := andi main_v0 main_v1
  let main_c_0 : IVec S_ 32 := constantI S_ 32 127#32
  let main_v3 : IVec S2x1024x18432 32 := broadcastInDim S2x1024x18432 ![] bcast_S_S2x1024x18432 main_c_0
  let main_v4 : IVec S2x1024x18432 1 := cmpi .ne main_v2 main_v3
  let main_v5 : FVec F S2x1024x144 .f32 := Host.absf main_arg1
  let main_cst : FVec F S_ .f32 := constant S_ .f32 0x7F800000#32
  let main_v6 : FVec F S2x1024x144 .f32 := broadcastInDim S2x1024x144 ![] bcast_S_S2x1024x144 main_cst
  let main_v7 : IVec S2x1024x144 1 := cmpf .olt main_v5 main_v6
  let main_v8 : IVec S2x1024x18432 32 := (extui 32 · natLt_8_32) main_arg2
  let main_c_1 : IVec S_ 32 := constantI S_ 32 124#32
  let main_v9 : IVec S2x1024x18432 32 := broadcastInDim S2x1024x18432 ![] bcast_S_S2x1024x18432 main_c_1
  let main_v10 : IVec S2x1024x18432 32 := andi main_v8 main_v9
  let main_c_2 : IVec S_ 32 := constantI S_ 32 124#32
  let main_v11 : IVec S2x1024x18432 32 := broadcastInDim S2x1024x18432 ![] bcast_S_S2x1024x18432 main_c_2
  let main_v12 : IVec S2x1024x18432 1 := cmpi .ne main_v10 main_v11
  let main_v13 : FVec F S2x1024 .f32 := Host.absf main_arg3
  let main_cst_3 : FVec F S_ .f32 := constant S_ .f32 0x7F800000#32
  let main_v14 : FVec F S2x1024 .f32 := broadcastInDim S2x1024 ![] bcast_S_S2x1024 main_cst_3
  let main_v15 : IVec S2x1024 1 := cmpf .olt main_v13 main_v14
  let main_v16 : FVec F S2x1024 .f32 := Host.absf main_arg4
  let main_cst_4 : FVec F S_ .f32 := constant S_ .f32 0x7F800000#32
  fn_part1 (F := F) main_v4 main_v7 main_v12 main_v15 main_v16 main_cst_4
-- ==== Kernel.lean ====
abbrev S2x1024x18432 : Shape := ⟨3, ![2, 1024, 18432]⟩
abbrev S2x1024x144 : Shape := ⟨3, ![2, 1024, 144]⟩
abbrev S2x1024 : Shape := ⟨2, ![2, 1024]⟩
abbrev S18432 : Shape := ⟨1, ![18432]⟩
abbrev S144x128 : Shape := ⟨2, ![144, 128]⟩
abbrev S1x128x18432 : Shape := ⟨3, ![1, 128, 18432]⟩
abbrev S1x128x144 : Shape := ⟨3, ![1, 128, 144]⟩
abbrev S72x32x256 : Shape := ⟨3, ![72, 32, 256]⟩
abbrev S72x8x256 : Shape := ⟨3, ![72, 8, 256]⟩
abbrev S18x16x128 : Shape := ⟨3, ![18, 16, 128]⟩
abbrev S8x128 : Shape := ⟨2, ![8, 128]⟩
abbrev S128x128 : Shape := ⟨2, ![128, 128]⟩
abbrev S18x128x8 : Shape := ⟨3, ![18, 128, 8]⟩
abbrev S8x256 : Shape := ⟨2, ![8, 256]⟩
abbrev S1x128 : Shape := ⟨2, ![1, 128]⟩
abbrev S1x256 : Shape := ⟨2, ![1, 256]⟩
abbrev S32x256 : Shape := ⟨2, ![32, 256]⟩
abbrev S1x32x256 : Shape := ⟨3, ![1, 32, 256]⟩
abbrev S2x128 : Shape := ⟨2, ![2, 128]⟩
abbrev S128 : Shape := ⟨1, ![128]⟩
abbrev S128x144 : Shape := ⟨2, ![128, 144]⟩
abbrev S18x8x128 : Shape := ⟨3, ![18, 8, 128]⟩
abbrev S1x128x256 : Shape := ⟨3, ![1, 128, 256]⟩
abbrev S128x256 : Shape := ⟨2, ![128, 256]⟩
abbrev S32x128 : Shape := ⟨2, ![32, 128]⟩
abbrev S1x16x128 : Shape := ⟨3, ![1, 16, 128]⟩
abbrev S16x128 : Shape := ⟨2, ![16, 128]⟩
abbrev S16x256 : Shape := ⟨2, ![16, 256]⟩
abbrev S1x8x256 : Shape := ⟨3, ![1, 8, 256]⟩
abbrev S128x8 : Shape := ⟨2, ![128, 8]⟩
abbrev S1x128x8 : Shape := ⟨3, ![1, 128, 8]⟩
abbrev S1x128x128 : Shape := ⟨3, ![1, 128, 128]⟩
abbrev S1x128x1 : Shape := ⟨3, ![1, 128, 1]⟩
abbrev S128x1 : Shape := ⟨2, ![128, 1]⟩
abbrev S1x8x128 : Shape := ⟨3, ![1, 8, 128]⟩

abbrev nBuf : Space → Nat
  | .hbm => 12
  | .vmem => 20
  | .smem => 0
  | _ => 0

abbrev bufTy : (tb : Table) → Fin (tcTables nBuf tb) → BufTy
  | .hbm, ⟨0, _⟩ => ⟨S2x1024x18432, .i8⟩
  | .hbm, ⟨1, _⟩ => ⟨S2x1024x144, .f32⟩
  | .hbm, ⟨2, _⟩ => ⟨S2x1024x18432, .i8⟩
  | .hbm, ⟨3, _⟩ => ⟨S2x1024, .f32⟩
  | .hbm, ⟨4, _⟩ => ⟨S2x1024, .f32⟩
  | .hbm, ⟨5, _⟩ => ⟨S18432, .f32⟩
  | .hbm, ⟨6, _⟩ => ⟨S2x1024x18432, .fp8e4m3⟩
  | .hbm, ⟨7, _⟩ => ⟨S2x1024x18432, .fp8e5m2⟩
  | .hbm, ⟨8, _⟩ => ⟨S144x128, .f32⟩
  | .hbm, ⟨9, _⟩ => ⟨S2x1024x18432, .bf16⟩
  | .hbm, ⟨10, _⟩ => ⟨S144x128, .f32⟩
  | .hbm, ⟨11, _⟩ => ⟨S18432, .f32⟩
  | .local _ .vmem, ⟨0, _⟩ => ⟨S1x128x18432, .fp8e4m3⟩
  | .local _ .vmem, ⟨1, _⟩ => ⟨S1x128x18432, .fp8e4m3⟩
  | .local _ .vmem, ⟨2, _⟩ => ⟨S1x128x144, .f32⟩
  | .local _ .vmem, ⟨3, _⟩ => ⟨S1x128x144, .f32⟩
  | .local _ .vmem, ⟨4, _⟩ => ⟨S1x128x18432, .fp8e5m2⟩
  | .local _ .vmem, ⟨5, _⟩ => ⟨S1x128x18432, .fp8e5m2⟩
  | .local _ .vmem, ⟨6, _⟩ => ⟨S2x1024, .f32⟩
  | .local _ .vmem, ⟨7, _⟩ => ⟨S2x1024, .f32⟩
  | .local _ .vmem, ⟨8, _⟩ => ⟨S144x128, .f32⟩
  | .local _ .vmem, ⟨9, _⟩ => ⟨S1x128x18432, .bf16⟩
  | .local _ .vmem, ⟨10, _⟩ => ⟨S1x128x18432, .bf16⟩
  | .local _ .vmem, ⟨11, _⟩ => ⟨S144x128, .f32⟩
  | .local _ .vmem, ⟨12, _⟩ => ⟨S144x128, .f32⟩
  | .local _ .vmem, ⟨13, _⟩ => ⟨S72x32x256, .bf16⟩
  | .local _ .vmem, ⟨14, _⟩ => ⟨S72x8x256, .f32⟩
  | .local _ .vmem, ⟨15, _⟩ => ⟨S144x128, .f32⟩
  | .local _ .vmem, ⟨16, _⟩ => ⟨S18x16x128, .bf16⟩
  | .local _ .vmem, ⟨17, _⟩ => ⟨S8x128, .f32⟩
  | .local _ .vmem, ⟨18, _⟩ => ⟨S128x128, .f32⟩
  | .local _ .vmem, ⟨19, _⟩ => ⟨S18x128x8, .f32⟩
  | _, _ => ⟨S2x1024x18432, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v6 : BitVec 32 := Scalar.extui v2
  let c0_i32_1 : BitVec 32 := 0#32
  let v7 : BitVec 1 := Scalar.cmpi .ne v6 c0_i32_1
  v7

@[reducible] def k0_t1_loop : Scf.Loop 32 :=
  let c0_i32_91 : BitVec 32 := 0#32
  let c18_i32_92 : BitVec 32 := 18#32
  let v204 : BitVec 32 := Scalar.addi c0_i32_91 c18_i32_92
  let c1_i32_93 : BitVec 32 := 1#32
  ⟨c0_i32_91, v204, c1_i32_93⟩
def k0_off1 (k0_t1 : Fin k0_t1_loop.trips) (c0_i32_95 : BitVec 32) (c0_i32_96 : BitVec 32) : Fin 2 → Nat :=
  let c0_i32_91 : BitVec 32 := 0#32
  let c1_i32_93 : BitVec 32 := 1#32
  let arg18 : BitVec 32 := Scf.iv c0_i32_91 c1_i32_93 k0_t1
  let c8_i32 : BitVec 32 := 8#32
  let v205 : BitVec 32 := Scalar.muli arg18 c8_i32
  let v206 : BitVec 32 := Scalar.addi v205 c0_i32_95
  let v207 : BitVec 32 := Scalar.addi v206 c0_i32_96
  let v208 : Index := Scalar.indexCast v207
  let c0_97 : Index := 0#32
  ![v208.toNat, 0]
def k0_off2 (k0_t1 : Fin k0_t1_loop.trips) (c0_i32_107 : BitVec 32) : Fin 3 → Nat :=
  let c0_i32_91 : BitVec 32 := 0#32
  let c1_i32_93 : BitVec 32 := 1#32
  let arg18 : BitVec 32 := Scf.iv c0_i32_91 c1_i32_93 k0_t1
  let c4_i32 : BitVec 32 := 4#32
  let v244 : BitVec 32 := Scalar.muli arg18 c4_i32
  let v245 : BitVec 32 := Scalar.addi v244 c0_i32_107
  let v246 : Index := Scalar.indexCast v245
  let c0_108 : Index := 0#32
  let c0_109 : Index := 0#32
  ![v246.toNat, 0, 0]
def k0_mult1 (i : grid0.Coords) : BitVec 32 :=
  let arg1 : BitVec 32 := BitVec.ofNat 32 (i 1).val
  let c128_i32 : BitVec 32 := 128#32
  let v8 : BitVec 32 := Scalar.muli arg1 c128_i32
  v8
def k0_off3 (i : grid0.Coords) : Fin 2 → Nat :=
  let c0 : Index := 0#32
  let arg1 : BitVec 32 := BitVec.ofNat 32 (i 1).val
  let c128_i32 : BitVec 32 := 128#32
  let v8 : BitVec 32 := Scalar.muli arg1 c128_i32
  let v9 : BitVec 32 := v8
  let v10 : Index := Scalar.indexCast v9
  ![0, v10.toNat]
def k0_mult2 (i : grid0.Coords) : BitVec 32 :=
  let arg1 : BitVec 32 := BitVec.ofNat 32 (i 1).val
  let c128_i32_3 : BitVec 32 := 128#32
  let v19 : BitVec 32 := Scalar.muli arg1 c128_i32_3
  v19
@[reducible] def k0_t2_loop : Scf.Loop 32 :=
  let c0_i32_19 : BitVec 32 := 0#32
  let c18_i32 : BitVec 32 := 18#32
  let v49 : BitVec 32 := Scalar.addi c0_i32_19 c18_i32
  let c1_i32_20 : BitVec 32 := 1#32
  ⟨c0_i32_19, v49, c1_i32_20⟩
def k0_off4 (k0_t2 : Fin k0_t2_loop.trips) (c0_i32_72 : BitVec 32) : Fin 3 → Nat :=
  let c0_73 : Index := 0#32
  let c0_74 : Index := 0#32
  let c0_i32_19 : BitVec 32 := 0#32
  let c1_i32_20 : BitVec 32 := 1#32
  let arg18 : BitVec 32 := Scf.iv c0_i32_19 c1_i32_20 k0_t2
  let c1024_i32 : BitVec 32 := 1024#32
  let v160 : BitVec 32 := Scalar.muli arg18 c1024_i32
  let v161 : BitVec 32 := Scalar.addi v160 c0_i32_72
  let v162 : Index := Scalar.indexCast v161
  ![0, 0, v162.toNat]
def k0_off5 (k0_t2 : Fin k0_t2_loop.trips) (c0_i32_77 : BitVec 32) : Fin 3 → Nat :=
  let c0_i32_19 : BitVec 32 := 0#32
  let c1_i32_20 : BitVec 32 := 1#32
  let arg18 : BitVec 32 := Scf.iv c0_i32_19 c1_i32_20 k0_t2
  let c4_i32 : BitVec 32 := 4#32
  let v171 : BitVec 32 := Scalar.muli arg18 c4_i32
  let v172 : BitVec 32 := Scalar.addi v171 c0_i32_77
  let v173 : Index := Scalar.indexCast v172
  let c0_78 : Index := 0#32
  let c0_79 : Index := 0#32
  ![v173.toNat, 0, 0]
def k0_off6 (k0_t2 : Fin k0_t2_loop.trips) : Fin 3 → Nat :=
  let c0_i32_19 : BitVec 32 := 0#32
  let c1_i32_20 : BitVec 32 := 1#32
  let arg18 : BitVec 32 := Scf.iv c0_i32_19 c1_i32_20 k0_t2
  let v177 : Index := Scalar.indexCast arg18
  let c0_81 : Index := 0#32
  let c0_82 : Index := 0#32
  ![v177.toNat, 0, 0]
def k0_off7 (k0_t2 : Fin k0_t2_loop.trips) (c0_i32_85 : BitVec 32) : Fin 3 → Nat :=
  let c0_i32_19 : BitVec 32 := 0#32
  let c1_i32_20 : BitVec 32 := 1#32
  let arg18 : BitVec 32 := Scf.iv c0_i32_19 c1_i32_20 k0_t2
  let c4_i32_84 : BitVec 32 := 4#32
  let v181 : BitVec 32 := Scalar.muli arg18 c4_i32_84
  let v182 : BitVec 32 := Scalar.addi v181 c0_i32_85
  let v183 : Index := Scalar.indexCast v182
  let c0_86 : Index := 0#32
  let c0_87 : Index := 0#32
  ![v183.toNat, 0, 0]
def k0_off8 (k0_t2 : Fin k0_t2_loop.trips) : Fin 2 → Nat :=
  let c0_i32_19 : BitVec 32 := 0#32
  let c1_i32_20 : BitVec 32 := 1#32
  let arg18 : BitVec 32 := Scf.iv c0_i32_19 c1_i32_20 k0_t2
  let c8_i32 : BitVec 32 := 8#32
  let v297 : BitVec 32 := Scalar.muli arg18 c8_i32
  let v298 : Index := Scalar.indexCast v297
  let c0_147 : Index := 0#32
  ![v298.toNat, 0]
@[reducible] def k0_t3_loop : Scf.Loop 32 :=
  let c0_i32_67 : BitVec 32 := 0#32
  let c18_i32_68 : BitVec 32 := 18#32
  let v157 : BitVec 32 := Scalar.addi c0_i32_67 c18_i32_68
  let c1_i32_69 : BitVec 32 := 1#32
  ⟨c0_i32_67, v157, c1_i32_69⟩
def k0_off9 (k0_t3 : Fin k0_t3_loop.trips) (c0_i32_73 : BitVec 32) : Fin 2 → Nat :=
  let c0_i32_67 : BitVec 32 := 0#32
  let c1_i32_69 : BitVec 32 := 1#32
  let arg18 : BitVec 32 := Scf.iv c0_i32_67 c1_i32_69 k0_t3
  let c8_i32 : BitVec 32 := 8#32
  let v162 : BitVec 32 := Scalar.muli arg18 c8_i32
  let v163 : BitVec 32 := Scalar.addi v162 c0_i32_73
  let v164 : Index := Scalar.indexCast v163
  let c0_74 : Index := 0#32
  ![v164.toNat, 0]
def k0_off10 (k0_t3 : Fin k0_t3_loop.trips) (c0_i32_72 : BitVec 32) : Fin 3 → Nat :=
  let c0_78 : Index := 0#32
  let c0_79 : Index := 0#32
  let c0_i32_67 : BitVec 32 := 0#32
  let c1_i32_69 : BitVec 32 := 1#32
  let arg18 : BitVec 32 := Scf.iv c0_i32_67 c1_i32_69 k0_t3
  let c1024_i32 : BitVec 32 := 1024#32
  let v160 : BitVec 32 := Scalar.muli arg18 c1024_i32
  let v161 : BitVec 32 := Scalar.addi v160 c0_i32_72
  let v171 : Index := Scalar.indexCast v161
  ![0, 0, v171.toNat]
def k0_off11 (k0_t3 : Fin k0_t3_loop.trips) : Fin 3 → Nat :=
  let c0_i32_67 : BitVec 32 := 0#32
  let c1_i32_69 : BitVec 32 := 1#32
  let arg18 : BitVec 32 := Scf.iv c0_i32_67 c1_i32_69 k0_t3
  let v185 : Index := Scalar.indexCast arg18
  let c0_84 : Index := 0#32
  let c0_85 : Index := 0#32
  ![v185.toNat, 0, 0]
def k0_off12 (k0_t3 : Fin k0_t3_loop.trips) : Fin 3 → Nat :=
  let c0_i32_67 : BitVec 32 := 0#32
  let c1_i32_69 : BitVec 32 := 1#32
  let arg18 : BitVec 32 := Scf.iv c0_i32_67 c1_i32_69 k0_t3
  let v221 : Index := Scalar.indexCast arg18
  let c0_102 : Index := 0#32
  let c1_103 : Index := 1#32
  ![v221.toNat, 0, 1]
def k0_off13 (k0_t3 : Fin k0_t3_loop.trips) : Fin 3 → Nat :=
  let c0_i32_67 : BitVec 32 := 0#32
  let c1_i32_69 : BitVec 32 := 1#32
  let arg18 : BitVec 32 := Scf.iv c0_i32_67 c1_i32_69 k0_t3
  let v257 : Index := Scalar.indexCast arg18
  let c0_118 : Index := 0#32
  let c2_119 : Index := 2#32
  ![v257.toNat, 0, 2]
def k0_off14 (k0_t3 : Fin k0_t3_loop.trips) : Fin 3 → Nat :=
  let c0_i32_67 : BitVec 32 := 0#32
  let c1_i32_69 : BitVec 32 := 1#32
  let arg18 : BitVec 32 := Scf.iv c0_i32_67 c1_i32_69 k0_t3
  let v293 : Index := Scalar.indexCast arg18
  let c0_134 : Index := 0#32
  let c3_135 : Index := 3#32
  ![v293.toNat, 0, 3]
def k0_off15 (k0_t3 : Fin k0_t3_loop.trips) : Fin 3 → Nat :=
  let c0_i32_67 : BitVec 32 := 0#32
  let c1_i32_69 : BitVec 32 := 1#32
  let arg18 : BitVec 32 := Scf.iv c0_i32_67 c1_i32_69 k0_t3
  let v329 : Index := Scalar.indexCast arg18
  let c0_150 : Index := 0#32
  let c4_151 : Index := 4#32
  ![v329.toNat, 0, 4]
def k0_off16 (k0_t3 : Fin k0_t3_loop.trips) : Fin 3 → Nat :=
  let c0_i32_67 : BitVec 32 := 0#32
  let c1_i32_69 : BitVec 32 := 1#32
  let arg18 : BitVec 32 := Scf.iv c0_i32_67 c1_i32_69 k0_t3
  let v365 : Index := Scalar.indexCast arg18
  let c0_166 : Index := 0#32
  let c5_167 : Index := 5#32
  ![v365.toNat, 0, 5]
def k0_off17 (k0_t3 : Fin k0_t3_loop.trips) : Fin 3 → Nat :=
  let c0_i32_67 : BitVec 32 := 0#32
  let c1_i32_69 : BitVec 32 := 1#32
  let arg18 : BitVec 32 := Scf.iv c0_i32_67 c1_i32_69 k0_t3
  let v401 : Index := Scalar.indexCast arg18
  let c0_182 : Index := 0#32
  let c6_183 : Index := 6#32
  ![v401.toNat, 0, 6]
def k0_off18 (k0_t3 : Fin k0_t3_loop.trips) : Fin 3 → Nat :=
  let c0_i32_67 : BitVec 32 := 0#32
  let c1_i32_69 : BitVec 32 := 1#32
  let arg18 : BitVec 32 := Scf.iv c0_i32_67 c1_i32_69 k0_t3
  let v437 : Index := Scalar.indexCast arg18
  let c0_199 : Index := 0#32
  let c7_200 : Index := 7#32
  ![v437.toNat, 0, 7]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let arg1 : BitVec 32 := BitVec.ofNat 32 (i 1).val
  let c7_i32 : BitVec 32 := 7#32
  let v4 : BitVec 1 := Scalar.cmpi .eq arg1 c7_i32
  let v5 : BitVec 1 := Scalar.andi v3 v4
  let v158 : BitVec 32 := Scalar.extui v5
  let c0_i32_71 : BitVec 32 := 0#32
  let v159 : BitVec 1 := Scalar.cmpi .ne v158 c0_i32_71
  v159

@[reducible] def k0_t4_loop : Scf.Loop 32 :=
  let c0_i32_72 : BitVec 32 := 0#32
  let c18_i32_73 : BitVec 32 := 18#32
  let v161 : BitVec 32 := Scalar.addi c0_i32_72 c18_i32_73
  let c1_i32_74 : BitVec 32 := 1#32
  ⟨c0_i32_72, v161, c1_i32_74⟩
def k0_off19 (k0_t4 : Fin k0_t4_loop.trips) (c0_i32_77 : BitVec 32) : Fin 3 → Nat :=
  let c0_i32_72 : BitVec 32 := 0#32
  let c1_i32_74 : BitVec 32 := 1#32
  let arg18 : BitVec 32 := Scf.iv c0_i32_72 c1_i32_74 k0_t4
  let c4_i32 : BitVec 32 := 4#32
  let v163 : BitVec 32 := Scalar.muli arg18 c4_i32
  let v164 : BitVec 32 := Scalar.addi v163 c0_i32_77
  let v165 : Index := Scalar.indexCast v164
  let c0_78 : Index := 0#32
  let c0_79 : Index := 0#32
  ![v165.toNat, 0, 0]
def k0_off20 (k0_t4 : Fin k0_t4_loop.trips) (c0_i32_82 : BitVec 32) : Fin 3 → Nat :=
  let c0_i32_72 : BitVec 32 := 0#32
  let c1_i32_74 : BitVec 32 := 1#32
  let arg18 : BitVec 32 := Scf.iv c0_i32_72 c1_i32_74 k0_t4
  let c4_i32_81 : BitVec 32 := 4#32
  let v171 : BitVec 32 := Scalar.muli arg18 c4_i32_81
  let v172 : BitVec 32 := Scalar.addi v171 c0_i32_82
  let v173 : Index := Scalar.indexCast v172
  let c0_83 : Index := 0#32
  let c128 : Index := 128#32
  ![v173.toNat, 0, 128]
def k0_off21 (k0_t4 : Fin k0_t4_loop.trips) : Fin 2 → Nat :=
  let c0_i32_72 : BitVec 32 := 0#32
  let c1_i32_74 : BitVec 32 := 1#32
  let arg18 : BitVec 32 := Scf.iv c0_i32_72 c1_i32_74 k0_t4
  let c8_i32 : BitVec 32 := 8#32
  let v227 : BitVec 32 := Scalar.muli arg18 c8_i32
  let v228 : Index := Scalar.indexCast v227
  let c0_111 : Index := 0#32
  ![v228.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x18432 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x18432 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S144x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x18432 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S144x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== KernelIdeal.lean ====
variable {F : FTy → Type} [FloatOps F] [Named F]
def κ : String → Option EReal := fun
  | "inv_d" => some ((1 / 18432 : ℝ) : EReal)
  | _ => none
-- ==== ReferenceIdeal.lean ====
abbrev S2x1024x18432 : Shape := ⟨3, ![2, 1024, 18432]⟩
abbrev S2x1024x144 : Shape := ⟨3, ![2, 1024, 144]⟩
abbrev S2x1024 : Shape := ⟨2, ![2, 1024]⟩
abbrev S18432 : Shape := ⟨1, ![18432]⟩
abbrev S2x1024x144x128 : Shape := ⟨4, ![2, 1024, 144, 128]⟩
abbrev S2x1024x144x1 : Shape := ⟨4, ![2, 1024, 144, 1]⟩
abbrev S2x1024x1 : Shape := ⟨3, ![2, 1024, 1]⟩
abbrev S1x1x18432 : Shape := ⟨3, ![1, 1, 18432]⟩

abbrev nBuf : Space → Nat
  | .hbm => 10
  | .vmem => 8
  | .smem => 0
  | _ => 0

abbrev bufTy : (tb : Table) → Fin (tcTables nBuf tb) → BufTy
  | .hbm, ⟨0, _⟩ => ⟨S2x1024x18432, .i8⟩
  | .hbm, ⟨1, _⟩ => ⟨S2x1024x144, .f32⟩
  | .hbm, ⟨2, _⟩ => ⟨S2x1024x18432, .i8⟩
  | .hbm, ⟨3, _⟩ => ⟨S2x1024, .f32⟩
  | .hbm, ⟨4, _⟩ => ⟨S2x1024, .f32⟩
  | .hbm, ⟨5, _⟩ => ⟨S18432, .f32⟩
  | .hbm, ⟨6, _⟩ => ⟨S2x1024x18432, .fp8e4m3⟩
  | .hbm, ⟨7, _⟩ => ⟨S2x1024x18432, .fp8e5m2⟩
  | .hbm, ⟨8, _⟩ => ⟨S2x1024x18432, .bf16⟩
  | .hbm, ⟨9, _⟩ => ⟨S18432, .f32⟩
  | .local _ .vmem, ⟨0, _⟩ => ⟨S2x1024x18432, .fp8e4m3⟩
  | .local _ .vmem, ⟨1, _⟩ => ⟨S2x1024x144, .f32⟩
  | .local _ .vmem, ⟨2, _⟩ => ⟨S2x1024x18432, .fp8e5m2⟩
  | .local _ .vmem, ⟨3, _⟩ => ⟨S2x1024, .f32⟩
  | .local _ .vmem, ⟨4, _⟩ => ⟨S2x1024, .f32⟩
  | .local _ .vmem, ⟨5, _⟩ => ⟨S18432, .f32⟩
  | .local _ .vmem, ⟨6, _⟩ => ⟨S2x1024x18432, .bf16⟩
  | .local _ .vmem, ⟨7, _⟩ => ⟨S18432, .f32⟩
  | _, _ => ⟨S2x1024x18432, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x1024x18432 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024x144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x18432 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S18432 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x18432 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S18432 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelRuns.lean ====
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v4}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg5`: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Finset.mem_sdiff.mpr ⟨Pipeline.mem_restRefs_of main_arg0 (by decide) (by decide), by decide⟩)).trans (V_main_arg0 m c),
      (Pipeline.RDat.FramePostR.arr_in h c 1 rfl).trans ((hA c 1).trans (V_main_arg1 m c)),
      ((h c).2 main_arg2 (Finset.mem_sdiff.mpr ⟨Pipeline.mem_restRefs_of main_arg2 (by decide) (by decide), by decide⟩)).trans (V_main_arg2 m c),
      (Pipeline.RDat.FramePostR.arr_in h c 3 rfl).trans ((hA c 3).trans (V_main_arg3 m c)),
      (Pipeline.RDat.FramePostR.arr_in h c 4 rfl).trans ((hA c 4).trans (V_main_arg4 m c)),
      ((h c).2 main_arg5 (Finset.mem_sdiff.mpr ⟨Pipeline.mem_restRefs_of main_arg5 (by decide) (by decide), by decide⟩)).trans (V_main_arg5 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 16 = 15 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0_1, k0_cond2, e0, e1]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x128x18432 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x144 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x18432 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S144x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x18432 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S144x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S144x128 .f32 := Memref.whole cc0_scratch0
abbrev scM0_1 : Memref sig .tc .vmem S72x32x256 .bf16 := Memref.whole cc0_scratch1
abbrev scM0_2 : Memref sig .tc .vmem S72x8x256 .f32 := Memref.whole cc0_scratch2
abbrev scM0_3 : Memref sig .tc .vmem S144x128 .f32 := Memref.whole cc0_scratch3
abbrev scM0_4 : Memref sig .tc .vmem S18x16x128 .bf16 := Memref.whole cc0_scratch4
abbrev scM0_5 : Memref sig .tc .vmem S8x128 .f32 := Memref.whole cc0_scratch5
abbrev scM0_6 : Memref sig .tc .vmem S128x128 .f32 := Memref.whole cc0_scratch6
abbrev scM0_7 : Memref sig .tc .vmem S18x128x8 .f32 := Memref.whole cc0_scratch7
/-- The scratch `arg10` the kernel carries between points, as a view: what it holds is stated through it. -/
abbrev VS0_0 : View sig .tc .vmem S144x128 .f32 := scM0_0.view
/-- The scratch `arg11` the kernel carries between points, as a view: what it holds is stated through it. -/
abbrev VS0_1 : View sig .tc .vmem S72x32x256 .bf16 := scM0_1.view
/-- The scratch `arg12` the kernel carries between points, as a view: what it holds is stated through it. -/
abbrev VS0_2 : View sig .tc .vmem S72x8x256 .f32 := scM0_2.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

end Cert.Kernel.Gen

end
-- ==== Proof.KernelLoopExit.lean ====
module

public import proofs.«01_k».proof.Proof.Gen.Kernel.Loops
public import Idealize.ShloMosaic.Lib.Pipeline.Frame
public import Idealize.ShloMosaic.Lib.Pipeline.FrameBody
public import Idealize.ShloMosaic.Lib.Ring

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The 72 stores the first loop's trips make tile its buffer: every element lies in one of them. -/
theorem cover_k0_t1 (𝒱 : Variants) (c : Dev nD) (bd : Option 𝒱.V) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (k0_h1 : k0_cond1 i = 1#1) (v178 : IVec S8x256 32) (v181 : IVec S8x256 32) (v195 : IVec S8x256 1) (v199 : IVec S8x256 1) (X_arg7 : BufTy.Contents (Elt F) arg7.view.ty) (X_arg10 : BufTy.Contents (Elt F) arg10.view.ty) (y : S72x32x256.Idx) :
    ∃ pc ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v178 v181 v195 v199 X_arg7 X_arg10 (Scf.trips k0_t1_loop.lb k0_t1_loop.ub k0_t1_loop.st)), y ∈ pc.1.set :=
  View.cover_of_tiledL (s := S72x32x256) (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v178 v181 v195 v199 X_arg7 X_arg10 (Scf.trips k0_t1_loop.lb k0_t1_loop.ub k0_t1_loop.st)) S1x32x256.size (by sl_kernel_rfl) y

/-- So what the first loop leaves in its buffer is the same whatever the buffer held on entry. -/
theorem writes_k0_t1 (𝒱 : Variants) (c : Dev nD) (bd : Option 𝒱.V) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (k0_h1 : k0_cond1 i = 1#1) (v178 : IVec S8x256 32) (v181 : IVec S8x256 32) (v195 : IVec S8x256 1) (v199 : IVec S8x256 1) (X_arg7 : BufTy.Contents (Elt F) arg7.view.ty) (X_arg10 : BufTy.Contents (Elt F) arg10.view.ty) (G : BufTy.Contents (Elt F) arg11.view.ty) :
    arg11.view.writes (Elt F) G (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v178 v181 v195 v199 X_arg7 X_arg10 (Scf.trips k0_t1_loop.lb k0_t1_loop.ub k0_t1_loop.st)) = arg11.view.writes (Elt F) arg11.view.junk (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v178 v181 v195 v199 X_arg7 X_arg10 (Scf.trips k0_t1_loop.lb k0_t1_loop.ub k0_t1_loop.st)) := by
  rw [harg11.eq_unread (View.read_writes_eq_canon arg11.view G _ (cover_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v178 v181 v195 v199 X_arg7 X_arg10)),
    harg11.eq_unread (View.read_writes_eq_canon arg11.view arg11.view.junk _ (cover_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v178 v181 v195 v199 X_arg7 X_arg10))]

/-- After the first loop a run carries on with its buffer stated over contents nobody chose, so that what it goes on
    to find does not name what the buffer held before the kernel's first point. -/
instance loopExit_k0_t1 (𝒱 : Variants) (c : Dev nD) (bd : Option 𝒱.V) (E : Set ℕ) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (k0_h1 : k0_cond1 i = 1#1) (v178 : IVec S8x256 32) (v181 : IVec S8x256 32) (v195 : IVec S8x256 1) (v199 : IVec S8x256 1) (X_arg7 : BufTy.Contents (Elt F) arg7.view.ty) (X_arg10 : BufTy.Contents (Elt F) arg10.view.ty) (G_arg11 : BufTy.Contents (Elt F) arg11.view.ty) :
    LoopExit (loopInv_k0_t1 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v178 v181 v195 v199 X_arg7 X_arg10 G_arg11) where
  post := fun _ => iprop((arg7.view.loc (c : Thread nD τ) ↦[arg7.view.set]{fullShare} X_arg7) ∗ (arg10.view.loc (c : Thread nD τ) ↦[arg10.view.set]{fullShare} X_arg10) ∗ (∃ f, (arg11.view.loc (c : Thread nD τ) ↦[arg11.view.set]{fullShare} f) ∗ ⌜f = arg11.view.writes (Elt F) arg11.view.junk (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v178 v181 v195 v199 X_arg7 X_arg10 (Scf.trips k0_t1_loop.lb k0_t1_loop.ub k0_t1_loop.st))⌝))
  exit := fun acc => by
    show inv_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v178 v181 v195 v199 X_arg7 X_arg10 G_arg11 (Scf.trips k0_t1_loop.lb k0_t1_loop.ub k0_t1_loop.st) acc ⊢ _
    unfold inv_k0_t1
    iintro ⟨H7, H10, ⟨%f, HW, %h⟩⟩
    isplitl [H7]; · iexact H7
    isplitl [H10]; · iexact H10
    iexists f; isplitl [HW]; · iexact HW
    ipureintro; exact h.trans (writes_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v178 v181 v195 v199 X_arg7 X_arg10 G_arg11)

end Cert.Kernel.Gen

end
-- ==== Proof.KernelRunA.lean ====
module

public import proofs.«01_k».proof.Proof.KernelRuns
public import proofs.«01_k».proof.Proof.KernelLoopExit

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7) at anything, handed back at some contents nothing names. -/
noncomputable def kernelRun0_A (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) :
    Σ' (LS0 : List (View.Piece (Elt F) S144x128 .f32)), Σ' (LS1 : List (View.Piece (Elt F) S72x32x256 .bf16)), { LS2 : List (View.Piece (Elt F) S72x8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_rmsnorm_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_rmsnorm_bwd_eq_skeleton]; unfold cc0_rmsnorm_bwd_skel
    simp only [k0_part18_eq_skeleton, k0_part5_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]; · iexists _; iexact HS0
    isplitl [HS1]; · iexists _; iexact HS1
    isplitl [HS2]; · iexists _; iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.Kernel.Gen

end
-- ==== Proof.KernelRunB.lean ====
module

public import proofs.«01_k».proof.Proof.KernelRuns
public import proofs.«01_k».proof.Proof.KernelRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE B (`scf.if` 0 not taken, `scf.if` 1 not taken: points 1, 2, … 14: 14 of 16), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7) at anything, handed back at some contents nothing names. -/
noncomputable def kernelRun0_B (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : ¬cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (xs0 : Vec F S144x128 .f32) (xs1 : Vec F S72x32x256 .bf16) (xs2 : Vec F S72x8x256 .f32) :
    Σ' (LS0 : List (View.Piece (Elt F) S144x128 .f32)), Σ' (LS1 : List (View.Piece (Elt F) S72x32x256 .bf16)), { LS2 : List (View.Piece (Elt F) S72x8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ (arg12.view.loc (c : Thread nD τ) ↦[arg12.view.set]{fullShare} arg12.view.writes (Elt F) (harg12.unread xs2) LS2) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_rmsnorm_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], [], ?_, fun E K => ?run⟩
  case run =>
    simp only [cc0_rmsnorm_bwd_eq_skeleton]; unfold cc0_rmsnorm_bwd_skel
    simp only [k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1; obtain rfl := harg12.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _; isplitr; · ipureintro; exact harg10.read_unread _
      iexact HS0
    isplitl [HS1]
    · iexists _; isplitr; · ipureintro; exact harg11.read_unread _
      iexact HS1
    isplitl [HS2]; · iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.Kernel.Gen

end
-- ==== Proof.KernelRunC.lean ====
module

public import proofs.«01_k».proof.Proof.KernelRuns
public import proofs.«01_k».proof.Proof.KernelRunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE C (`scf.if` 0 not taken, `scf.if` 1 taken: points 15), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (6, 7) at anything, handed back at some contents nothing names. -/
noncomputable def kernelRun0_C (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : ¬cond0_0 i) (hc1 : cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (xs0 : Vec F S144x128 .f32) (xs1 : Vec F S72x32x256 .bf16) (xs2 : Vec F S72x8x256 .f32) :
    Σ' (LS0 : List (View.Piece (Elt F) S144x128 .f32)), Σ' (LS1 : List (View.Piece (Elt F) S72x32x256 .bf16)), { LS2 : List (View.Piece (Elt F) S72x8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ (arg12.view.loc (c : Thread nD τ) ↦[arg12.view.set]{fullShare} arg12.view.writes (Elt F) (harg12.unread xs2) LS2) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_rmsnorm_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨[], [], ?_, fun E K => ?run⟩
  case run =>
    simp only [cc0_rmsnorm_bwd_eq_skeleton]; unfold cc0_rmsnorm_bwd_skel
    simp only [k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1; obtain rfl := harg12.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _; isplitr; · ipureintro; exact harg10.read_unread _
      iexact HS0
    isplitl [HS1]
    · iexists _; isplitr; · ipureintro; exact harg11.read_unread _
      iexact HS1
    isplitl [HS2]; · iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.Kernel.Gen

end
-- ==== Proof.KernelFrame.lean ====
module

public import proofs.«01_k».proof.Proof.KernelRunC
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg10`, which the kernel carries between points, cover it: 1 piece of `S144x128` tiling it (Lib/Ring.lean `Piece.tiledL`). -/
theorem scover0_A_0 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (y : S144x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).1 S144x128.size (by sl_kernel_rfl) y

/-- What case A leaves in scratch `arg10`: its pieces read back over junk. -/
def sout0_A_0 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) : Vec F S144x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).1)

/-- Case A's pieces for scratch `arg11`, which the kernel carries between points, cover it: 72 pieces of `S1x32x256` tiling it (Lib/Ring.lean `Piece.tiledL`). -/
theorem scover0_A_1 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (y : S72x32x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.1 S1x32x256.size (by sl_kernel_rfl) y

/-- What case A leaves in scratch `arg11`: its pieces read back over junk. -/
def sout0_A_1 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) : Vec F S72x32x256 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.1)

/-- Case A's pieces for scratch `arg12`, which the kernel carries between points, cover it: one of them a store of the WHOLE buffer (Lib/Ring.lean `sl_whole_mem`). -/
theorem scover0_A_2 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (y : S72x8x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.1 (by sl_whole_mem) y

/-- What case A leaves in scratch `arg12`: its pieces read back over junk. -/
def sout0_A_2 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) : Vec F S72x8x256 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.1)

/-- Case B stores nothing into scratch `arg10`: it holds what the point before left. -/
def sout0_B_0 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : ¬cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (xs0 : Vec F S144x128 .f32) (xs1 : Vec F S72x32x256 .bf16) (xs2 : Vec F S72x8x256 .f32) : Vec F S144x128 .f32 := xs0

/-- Case B stores nothing into scratch `arg11`: it holds what the point before left. -/
def sout0_B_1 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : ¬cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (xs0 : Vec F S144x128 .f32) (xs1 : Vec F S72x32x256 .bf16) (xs2 : Vec F S72x8x256 .f32) : Vec F S72x32x256 .bf16 := xs1

/-- What case B leaves in scratch `arg12`: its pieces (stores, a counted loop's segment) read back over what the point before left there, which it read first. -/
def sout0_B_2 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : ¬cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (xs0 : Vec F S144x128 .f32) (xs1 : Vec F S72x32x256 .bf16) (xs2 : Vec F S72x8x256 .f32) : Vec F S72x8x256 .f32 :=
  arg12.view.read (Elt F) (arg12.view.writes (Elt F) (harg12.unread xs2) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2).2.2.1)

/-- Case C stores nothing into scratch `arg10`: it holds what the point before left. -/
def sout0_C_0 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : ¬cond0_0 i) (hc1 : cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (xs0 : Vec F S144x128 .f32) (xs1 : Vec F S72x32x256 .bf16) (xs2 : Vec F S72x8x256 .f32) : Vec F S144x128 .f32 := xs0

/-- Case C stores nothing into scratch `arg11`: it holds what the point before left. -/
def sout0_C_1 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : ¬cond0_0 i) (hc1 : cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (xs0 : Vec F S144x128 .f32) (xs1 : Vec F S72x32x256 .bf16) (xs2 : Vec F S72x8x256 .f32) : Vec F S72x32x256 .bf16 := xs1

/-- What case C leaves in scratch `arg12`: its pieces (stores, a counted loop's segment) read back over what the point before left there, which it read first. -/
def sout0_C_2 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : ¬cond0_0 i) (hc1 : cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (xs0 : Vec F S144x128 .f32) (xs1 : Vec F S72x32x256 .bf16) (xs2 : Vec F S72x8x256 .f32) : Vec F S72x8x256 .f32 :=
  arg12.view.read (Elt F) (arg12.view.writes (Elt F) (harg12.unread xs2) (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S144x128 .f32 × Vec F S72x32x256 .bf16 × Vec F S72x8x256 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 16 = 0 then
      if h1 : (n + 1) % 16 = 15 then
        False.elim (by have hN : n + 1 < 16 := lt_of_lt_of_eq hn (show cfg0.N = 16 from N_0); omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 16 = 15 then
        (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).1 (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 16 = 0) (h1 : ¬t.val % 16 = 15) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 m c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2.1) ∗ owns (c : Thread nD τ) scM0_2 fullShare ((outsAt0 m c (n - 1) (by omega)).2.2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  cases n with
  | zero => exact absurd rfl hz
  | succ n => rfl

/-! ## The pipeline's proof data -/

/-- The output windows this certificate FORGETS (6, 7): nothing reads what the kernel leaves in them, so nothing
    of it is named (Lib/Pipeline/Dat.lean `Dat.toRForget`). -/
def forgets0 : Fin 8 → Bool := fun w => w.val == 6 || w.val == 7

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d))

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      by_cases hz : t.val = 0
      · rw [PhiS_castSucc m c t, PhiS_zero m c _ _ hz, PhiA0_eq]
        rw [outsAt0_A m c t h0 h1]
        unfold sout0_A_0 sout0_A_1 sout0_A_2; (try dsimp only)
        iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iintro ⟨H0, H1, H2, H3, H4, H5, H6, H7, ⟨%es0, HS0⟩, ⟨%es1, HS1⟩, ⟨%es2, HS2⟩, HS3, HS4, HS5, HS6, HS7⟩
        isplitl [HS0 HS1 HS2 HS3 HS4 HS5 HS6 HS7 Hg]
        · isplitl [HS0 HS1 HS2 HS3 HS4 HS5 HS6 HS7]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _)
            isplitl [HS3]
            · iexact HS3
            isplitl [HS4]
            · iexact HS4
            isplitl [HS5]
            · iexact HS5
            isplitl [HS6]
            · iexact HS6
            iexact HS7
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
      · exfalso; have hN : t.val < 16 := lt_of_lt_of_eq t.isLt (show cfg0.N = 16 from N_0); omega
  · by_cases h1 : t.val % 16 = 15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      by_cases hz : t.val = 0
      · exfalso; have hN : t.val < 16 := lt_of_lt_of_eq t.isLt (show cfg0.N = 16 from N_0); omega
      · rw [PhiS_castSucc m c t, PhiS_pos m c _ _ hz]
        rw [outsAt0_C m c t h0 h1]
        unfold sout0_C_0 sout0_C_1 sout0_C_2; (try dsimp only)
        iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iintro ⟨H0, H1, H2, H3, H4, H5, H6, H7, HS0, HS1, HS2, HS3, HS4, HS5, HS6, HS7⟩
        isplitl [HS0 HS1 HS2 HS3 HS4 HS5 HS6 HS7 Hg]
        · isplitl [HS0 HS1 HS2 HS3 HS4 HS5 HS6 HS7]
          · isplitl [HS0]
            · iexact HS0
            isplitl [HS1]
            · iexact HS1
            isplitl [HS2]
            · unfold owns; iexists _; isplitr
              swap; · iexact HS2
              ipureintro; rfl
            isplitl [HS3]
            · iexact HS3
            isplitl [HS4]
            · iexact HS4
            isplitl [HS5]
            · iexact HS5
            isplitl [HS6]
            · iexact HS6
            iexact HS7
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      by_cases hz : t.val = 0
      · exfalso; have hN : t.val < 16 := lt_of_lt_of_eq t.isLt (show cfg0.N = 16 from N_0); omega
      · rw [PhiS_castSucc m c t, PhiS_pos m c _ _ hz]
        rw [outsAt0_B m c t h0 h1]
        unfold sout0_B_0 sout0_B_1 sout0_B_2; (try dsimp only)
        iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iintro ⟨H0, H1, H2, H3, H4, H5, H6, H7, HS0, HS1, HS2, HS3, HS4, HS5, HS6, HS7⟩
        isplitl [HS0 HS1 HS2 HS3 HS4 HS5 HS6 HS7 Hg]
        · isplitl [HS0 HS1 HS2 HS3 HS4 HS5 HS6 HS7]
          · isplitl [HS0]
            · iexact HS0
            isplitl [HS1]
            · iexact HS1
            isplitl [HS2]
            · unfold owns; iexists _; isplitr
              swap; · iexact HS2
              ipureintro; rfl
            isplitl [HS3]
            · iexact HS3
            isplitl [HS4]
            · iexact HS4
            isplitl [HS5]
            · iexact HS5
            isplitl [HS6]
            · iexact HS6
            iexact HS7
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7⟩, Hg⟩
  isplitl [HS0 HS1 HS2 HS3 HS4 HS5 HS6 HS7]
  · isplitl [HS0]
    · iexists _; iexact HS0
    isplitl [HS1]
    · iexists _; iexact HS1
    isplitl [HS2]
    · iexists _; iexact HS2
    isplitl [HS3]
    · iexact HS3
    isplitl [HS4]
    · iexact HS4
    isplitl [HS5]
    · iexact HS5
    isplitl [HS6]
    · iexact HS6
    iexact HS7
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_around_T_track_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 6, 7) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Gen

end
-- ==== Proof.KernelIdealLoopExit.lean ====
module

public import proofs.«01_k».proof.Proof.Gen.KernelIdeal.Loops
public import Idealize.ShloMosaic.Lib.Pipeline.Frame
public import Idealize.ShloMosaic.Lib.Pipeline.FrameBody
public import Idealize.ShloMosaic.Lib.Ring

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The 72 stores the first loop's trips make tile its buffer: every element lies in one of them. -/
theorem cover_k0_t1 (𝒱 : Variants) (c : Dev nD) (bd : Option 𝒱.V) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (k0_h1 : k0_cond1 i = 1#1) (v178 : IVec S8x256 32) (v181 : IVec S8x256 32) (v195 : IVec S8x256 1) (v199 : IVec S8x256 1) (X_arg7 : BufTy.Contents (Elt F) arg7.view.ty) (X_arg10 : BufTy.Contents (Elt F) arg10.view.ty) (y : S72x32x256.Idx) :
    ∃ pc ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v178 v181 v195 v199 X_arg7 X_arg10 (Scf.trips k0_t1_loop.lb k0_t1_loop.ub k0_t1_loop.st)), y ∈ pc.1.set :=
  View.cover_of_tiledL (s := S72x32x256) (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v178 v181 v195 v199 X_arg7 X_arg10 (Scf.trips k0_t1_loop.lb k0_t1_loop.ub k0_t1_loop.st)) S1x32x256.size (by sl_kernel_rfl) y

/-- So what the first loop leaves in its buffer is the same whatever the buffer held on entry. -/
theorem writes_k0_t1 (𝒱 : Variants) (c : Dev nD) (bd : Option 𝒱.V) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (k0_h1 : k0_cond1 i = 1#1) (v178 : IVec S8x256 32) (v181 : IVec S8x256 32) (v195 : IVec S8x256 1) (v199 : IVec S8x256 1) (X_arg7 : BufTy.Contents (Elt F) arg7.view.ty) (X_arg10 : BufTy.Contents (Elt F) arg10.view.ty) (G : BufTy.Contents (Elt F) arg11.view.ty) :
    arg11.view.writes (Elt F) G (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v178 v181 v195 v199 X_arg7 X_arg10 (Scf.trips k0_t1_loop.lb k0_t1_loop.ub k0_t1_loop.st)) = arg11.view.writes (Elt F) arg11.view.junk (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v178 v181 v195 v199 X_arg7 X_arg10 (Scf.trips k0_t1_loop.lb k0_t1_loop.ub k0_t1_loop.st)) := by
  rw [harg11.eq_unread (View.read_writes_eq_canon arg11.view G _ (cover_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v178 v181 v195 v199 X_arg7 X_arg10)),
    harg11.eq_unread (View.read_writes_eq_canon arg11.view arg11.view.junk _ (cover_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v178 v181 v195 v199 X_arg7 X_arg10))]

/-- After the first loop a run carries on with its buffer stated over contents nobody chose, so that what it goes on
    to find does not name what the buffer held before the kernel's first point. -/
instance loopExit_k0_t1 (𝒱 : Variants) (c : Dev nD) (bd : Option 𝒱.V) (E : Set ℕ) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (k0_h1 : k0_cond1 i = 1#1) (v178 : IVec S8x256 32) (v181 : IVec S8x256 32) (v195 : IVec S8x256 1) (v199 : IVec S8x256 1) (X_arg7 : BufTy.Contents (Elt F) arg7.view.ty) (X_arg10 : BufTy.Contents (Elt F) arg10.view.ty) (G_arg11 : BufTy.Contents (Elt F) arg11.view.ty) :
    LoopExit (loopInv_k0_t1 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v178 v181 v195 v199 X_arg7 X_arg10 G_arg11) where
  post := fun _ => iprop((arg7.view.loc (c : Thread nD τ) ↦[arg7.view.set]{fullShare} X_arg7) ∗ (arg10.view.loc (c : Thread nD τ) ↦[arg10.view.set]{fullShare} X_arg10) ∗ (∃ f, (arg11.view.loc (c : Thread nD τ) ↦[arg11.view.set]{fullShare} f) ∗ ⌜f = arg11.view.writes (Elt F) arg11.view.junk (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v178 v181 v195 v199 X_arg7 X_arg10 (Scf.trips k0_t1_loop.lb k0_t1_loop.ub k0_t1_loop.st))⌝))
  exit := fun acc => by
    show inv_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v178 v181 v195 v199 X_arg7 X_arg10 G_arg11 (Scf.trips k0_t1_loop.lb k0_t1_loop.ub k0_t1_loop.st) acc ⊢ _
    unfold inv_k0_t1
    iintro ⟨H7, H10, ⟨%f, HW, %h⟩⟩
    isplitl [H7]; · iexact H7
    isplitl [H10]; · iexact H10
    iexists f; isplitl [HW]; · iexact HW
    ipureintro; exact h.trans (writes_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v178 v181 v195 v199 X_arg7 X_arg10 G_arg11)

end Cert.KernelIdeal.Gen

end
-- ==== Proof.KernelIdealRunA.lean ====
module

public import proofs.«01_k».proof.Proof.Gen.KernelIdeal.Frame.Runs
public import proofs.«01_k».proof.Proof.KernelIdealLoopExit

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE A (`scf.if` 0 taken, `scf.if` 1 not taken: points 0), WITH the
    proof that on whole staging memrefs — the inputs' at their contents, the outputs it leaves idle (7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) :
    Σ' (L6 : List (View.Piece (Elt F) S1x128x18432 .bf16)), Σ' (L7 : List (View.Piece (Elt F) S144x128 .f32)), Σ' (LS0 : List (View.Piece (Elt F) S144x128 .f32)), Σ' (LS1 : List (View.Piece (Elt F) S72x32x256 .bf16)), { LS2 : List (View.Piece (Elt F) S72x8x256 .f32) //
      ∀ (xi7 : Vec F S144x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_rmsnorm_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, [], ?_, ?_, ?_, fun xi7 E K => ?run⟩
  case run =>
    simp only [cc0_rmsnorm_bwd_eq_skeleton]; unfold cc0_rmsnorm_bwd_skel
    simp only [k0_part18_eq_skeleton, k0_part5_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [HS0]; · iexists _; iexact HS0
    isplitl [HS1]; · iexists _; iexact HS1
    isplitl [HS2]; · iexists _; iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.KernelIdeal.Gen

end
-- ==== Proof.KernelIdealRunB.lean ====
module

public import proofs.«01_k».proof.Proof.Gen.KernelIdeal.Frame.Runs
public import proofs.«01_k».proof.Proof.KernelIdealRunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE B (`scf.if` 0 not taken, `scf.if` 1 not taken: points 1, 2, … 14: 14 of 16), WITH the
    proof that on whole staging memrefs — the inputs' at their contents, the outputs it leaves idle (7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : ¬cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (xs0 : Vec F S144x128 .f32) (xs1 : Vec F S72x32x256 .bf16) (xs2 : Vec F S72x8x256 .f32) :
    Σ' (L6 : List (View.Piece (Elt F) S1x128x18432 .bf16)), Σ' (L7 : List (View.Piece (Elt F) S144x128 .f32)), Σ' (LS0 : List (View.Piece (Elt F) S144x128 .f32)), Σ' (LS1 : List (View.Piece (Elt F) S72x32x256 .bf16)), { LS2 : List (View.Piece (Elt F) S72x8x256 .f32) //
      ∀ (xi7 : Vec F S144x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xs0 ∗ owns (c : Thread nD τ) arg11 fullShare xs1 ∗ owns (c : Thread nD τ) arg12 fullShare xs2 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xs0 ∗ owns (c : Thread nD τ) arg11 fullShare xs1 ∗ (arg12.view.loc (c : Thread nD τ) ↦[arg12.view.set]{fullShare} arg12.view.writes (Elt F) (harg12.unread xs2) LS2) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_rmsnorm_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, [], [], [], ?_, fun xi7 E K => ?run⟩
  case run =>
    simp only [cc0_rmsnorm_bwd_eq_skeleton]; unfold cc0_rmsnorm_bwd_skel
    simp only [k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0; obtain rfl := harg11.eq_unread hfs1; obtain rfl := harg12.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [HS0]
    · iexists _; isplitr; · ipureintro; exact harg10.read_unread _
      iexact HS0
    isplitl [HS1]
    · iexists _; isplitr; · ipureintro; exact harg11.read_unread _
      iexact HS1
    isplitl [HS2]; · iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.KernelIdeal.Gen

end
-- ==== Proof.KernelIdealRunC.lean ====
module

public import proofs.«01_k».proof.Proof.Gen.KernelIdeal.Frame.Runs
public import proofs.«01_k».proof.Proof.KernelIdealRunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE C (`scf.if` 0 not taken, `scf.if` 1 taken: points 15), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : ¬cond0_0 i) (hc1 : cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (xs0 : Vec F S144x128 .f32) (xs1 : Vec F S72x32x256 .bf16) (xs2 : Vec F S72x8x256 .f32) :
    Σ' (L6 : List (View.Piece (Elt F) S1x128x18432 .bf16)), Σ' (L7 : List (View.Piece (Elt F) S144x128 .f32)), Σ' (LS0 : List (View.Piece (Elt F) S144x128 .f32)), Σ' (LS1 : List (View.Piece (Elt F) S72x32x256 .bf16)), { LS2 : List (View.Piece (Elt F) S72x8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ owns (c : Thread nD τ) arg10 fullShare xs0 ∗ owns (c : Thread nD τ) arg11 fullShare xs1 ∗ (arg12.view.loc (c : Thread nD τ) ↦[arg12.view.set]{fullShare} arg12.view.writes (Elt F) (harg12.unread xs2) LS2) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) -∗ K ⟨⟩))
          ⊢ wp frame (wpE (defs₀ (F := F)) Variants.none c none) E (cc0_rmsnorm_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, [], [], ?_, fun E K => ?run⟩
  case run =>
    simp only [cc0_rmsnorm_bwd_eq_skeleton]; unfold cc0_rmsnorm_bwd_skel
    simp only [k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%fs2, %hfs2, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1; obtain rfl := harg12.eq_unread hfs2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]
    · iexists _; isplitr; · ipureintro; exact harg10.read_unread _
      iexact HS0
    isplitl [HS1]
    · iexists _; isplitr; · ipureintro; exact harg11.read_unread _
      iexact HS1
    isplitl [HS2]; · iexact HS2
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.KernelIdeal.Gen

end
-- ==== Proof.KernelIdealFrame.lean ====
module

public import proofs.«01_k».proof.Proof.KernelIdealRunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 6 tile its block (144 stores of `S1x128x128`, checked by the kernel's evaluation: Lib/Ring.lean `Piece.tiledL`, linear in the pieces, through a loop's `@[irreducible]` trip theorem too), so they cover it. -/
theorem cover0_A_6 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (y : S1x128x18432.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).1 S1x128x128.size (by sl_kernel_rfl) y

/-- What case A leaves in output 6's staging buffer: its pieces read back over junk. -/
def out0_A_6 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) : Vec F S1x128x18432 .bf16 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).1)

/-- Case A stores nothing into output 7 (the window is idle at its points and not written back there):
    no pieces — a placeholder (junk read back) that nothing consults, since at these points the window is neither
    written back nor read at the next point (Lib/Pipeline.lean "Idle points"). -/
def out0_A_7 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) : Vec F S144x128 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.1)

/-- Case A's pieces for scratch `arg10`, which the kernel carries between points, cover it: 1 piece of `S144x128` tiling it (Lib/Ring.lean `Piece.tiledL`). -/
theorem scover0_A_0 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (y : S144x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.1 S144x128.size (by sl_kernel_rfl) y

/-- What case A leaves in scratch `arg10`: its pieces read back over junk. -/
def sout0_A_0 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) : Vec F S144x128 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.1)

/-- Case A's pieces for scratch `arg11`, which the kernel carries between points, cover it: 72 pieces of `S1x32x256` tiling it (Lib/Ring.lean `Piece.tiledL`). -/
theorem scover0_A_1 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (y : S72x32x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.2.1 S1x32x256.size (by sl_kernel_rfl) y

/-- What case A leaves in scratch `arg11`: its pieces read back over junk. -/
def sout0_A_1 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) : Vec F S72x32x256 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.2.1)

/-- Case A's pieces for scratch `arg12`, which the kernel carries between points, cover it: one of them a store of the WHOLE buffer (Lib/Ring.lean `sl_whole_mem`). -/
theorem scover0_A_2 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (y : S72x8x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.2.2.1, y ∈ pc.1.set :=
  View.cover_of_wholeMem (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.2.2.1 (by sl_whole_mem) y

/-- What case A leaves in scratch `arg12`: its pieces read back over junk. -/
def sout0_A_2 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) : Vec F S72x8x256 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.2.2.1)

/-- Case B's pieces for output 6 tile its block (144 stores of `S1x128x128`, checked by the kernel's evaluation: Lib/Ring.lean `Piece.tiledL`, linear in the pieces, through a loop's `@[irreducible]` trip theorem too), so they cover it. -/
theorem cover0_B_6 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : ¬cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (xs0 : Vec F S144x128 .f32) (xs1 : Vec F S72x32x256 .bf16) (xs2 : Vec F S72x8x256 .f32) (y : S1x128x18432.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2).1 S1x128x128.size (by sl_kernel_rfl) y

/-- What case B leaves in output 6's staging buffer: its pieces read back over junk. -/
def out0_B_6 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : ¬cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (xs0 : Vec F S144x128 .f32) (xs1 : Vec F S72x32x256 .bf16) (xs2 : Vec F S72x8x256 .f32) : Vec F S1x128x18432 .bf16 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2).1)

/-- Case B stores nothing into output 7 (the window is idle at its points and not written back there):
    no pieces — a placeholder (junk read back) that nothing consults, since at these points the window is neither
    written back nor read at the next point (Lib/Pipeline.lean "Idle points"). -/
def out0_B_7 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : ¬cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (xs0 : Vec F S144x128 .f32) (xs1 : Vec F S72x32x256 .bf16) (xs2 : Vec F S72x8x256 .f32) : Vec F S144x128 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2).2.1)

/-- Case B stores nothing into scratch `arg10`: it holds what the point before left. -/
def sout0_B_0 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : ¬cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (xs0 : Vec F S144x128 .f32) (xs1 : Vec F S72x32x256 .bf16) (xs2 : Vec F S72x8x256 .f32) : Vec F S144x128 .f32 := xs0

/-- Case B stores nothing into scratch `arg11`: it holds what the point before left. -/
def sout0_B_1 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : ¬cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (xs0 : Vec F S144x128 .f32) (xs1 : Vec F S72x32x256 .bf16) (xs2 : Vec F S72x8x256 .f32) : Vec F S72x32x256 .bf16 := xs1

/-- What case B leaves in scratch `arg12`: its pieces (stores, a counted loop's segment) read back over what the point before left there, which it read first. -/
def sout0_B_2 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : ¬cond0_0 i) (hc1 : ¬cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (xs0 : Vec F S144x128 .f32) (xs1 : Vec F S72x32x256 .bf16) (xs2 : Vec F S72x8x256 .f32) : Vec F S72x8x256 .f32 :=
  arg12.view.read (Elt F) (arg12.view.writes (Elt F) (harg12.unread xs2) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2).2.2.2.2.1)

/-- Case C's pieces for output 6 tile its block (144 stores of `S1x128x128`, checked by the kernel's evaluation: Lib/Ring.lean `Piece.tiledL`, linear in the pieces, through a loop's `@[irreducible]` trip theorem too), so they cover it. -/
theorem cover0_C_6 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : ¬cond0_0 i) (hc1 : cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (xs0 : Vec F S144x128 .f32) (xs1 : Vec F S72x32x256 .bf16) (xs2 : Vec F S72x8x256 .f32) (y : S1x128x18432.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2).1 S1x128x128.size (by sl_kernel_rfl) y

/-- What case C leaves in output 6's staging buffer: its pieces read back over junk. -/
def out0_C_6 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : ¬cond0_0 i) (hc1 : cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (xs0 : Vec F S144x128 .f32) (xs1 : Vec F S72x32x256 .bf16) (xs2 : Vec F S72x8x256 .f32) : Vec F S1x128x18432 .bf16 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2).1)

/-- Case C's pieces for output 7 tile its block (18 stores of `S8x128`, checked by the kernel's evaluation: Lib/Ring.lean `Piece.tiledL`, linear in the pieces, through a loop's `@[irreducible]` trip theorem too), so they cover it. -/
theorem cover0_C_7 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : ¬cond0_0 i) (hc1 : cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (xs0 : Vec F S144x128 .f32) (xs1 : Vec F S72x32x256 .bf16) (xs2 : Vec F S72x8x256 .f32) (y : S144x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2).2.1 S8x128.size (by sl_kernel_rfl) y

/-- What case C leaves in output 7's staging buffer: its pieces read back over junk. -/
def out0_C_7 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : ¬cond0_0 i) (hc1 : cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (xs0 : Vec F S144x128 .f32) (xs1 : Vec F S72x32x256 .bf16) (xs2 : Vec F S72x8x256 .f32) : Vec F S144x128 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2).2.1)

/-- Case C stores nothing into scratch `arg10`: it holds what the point before left. -/
def sout0_C_0 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : ¬cond0_0 i) (hc1 : cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (xs0 : Vec F S144x128 .f32) (xs1 : Vec F S72x32x256 .bf16) (xs2 : Vec F S72x8x256 .f32) : Vec F S144x128 .f32 := xs0

/-- Case C stores nothing into scratch `arg11`: it holds what the point before left. -/
def sout0_C_1 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : ¬cond0_0 i) (hc1 : cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (xs0 : Vec F S144x128 .f32) (xs1 : Vec F S72x32x256 .bf16) (xs2 : Vec F S72x8x256 .f32) : Vec F S72x32x256 .bf16 := xs1

/-- What case C leaves in scratch `arg12`: its pieces (stores, a counted loop's segment) read back over what the point before left there, which it read first. -/
def sout0_C_2 (c : Dev nD) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole) (hc0 : ¬cond0_0 i) (hc1 : cond0_1 i)
    (x0 : Vec F S1x128x18432 .fp8e4m3) (x1 : Vec F S1x128x144 .f32) (x2 : Vec F S1x128x18432 .fp8e5m2) (x3 : Vec F S2x1024 .f32) (x4 : Vec F S2x1024 .f32) (x5 : Vec F S144x128 .f32) (xs0 : Vec F S144x128 .f32) (xs1 : Vec F S72x32x256 .bf16) (xs2 : Vec F S72x8x256 .f32) : Vec F S72x8x256 .f32 :=
  arg12.view.read (Elt F) (arg12.view.writes (Elt F) (harg12.unread xs2) (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2).2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x128x18432 .bf16 × Vec F S144x128 .f32 × Vec F S144x128 .f32 × Vec F S72x32x256 .bf16 × Vec F S72x8x256 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 16 = 0 then
      if h1 : (n + 1) % 16 = 15 then
        False.elim (by have hN : n + 1 < 16 := lt_of_lt_of_eq hn (show cfg0.N = 16 from N_0); omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h1 : (n + 1) % 16 = 15 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2.1 (outsAt0 c n (Nat.lt_of_succ_lt hn)).2.2.2.2)
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt0 c n (Nat.lt_of_succ_lt hn)).2.2.1 (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 16 = 0) (h1 : ¬t.val % 16 = 15) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 m c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1) ∗ owns (c : Thread nD τ) scM0_2 fullShare ((outsAt0 m c (n - 1) (by omega)).2.2.2.2) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_6 sout0_A_0 sout0_A_1 sout0_A_2; (try dsimp only)
        iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t)).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iintro ⟨H0, H1, H2, H3, H4, H5, ⟨%e6, H6⟩, H7, ⟨%es0, HS0⟩, ⟨%es1, HS1⟩, ⟨%es2, HS2⟩, HS3, HS4, HS5, HS6, HS7⟩
        isplitl [HS0 HS1 HS2 HS3 HS4 HS5 HS6 HS7 Hg]
        · isplitl [HS0 HS1 HS2 HS3 HS4 HS5 HS6 HS7]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _)
            isplitl [HS3]
            · iexact HS3
            isplitl [HS4]
            · iexact HS4
            isplitl [HS5]
            · iexact HS5
            isplitl [HS6]
            · iexact HS6
            iexact HS7
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _ _ _ _ _ _ _ _ _ _ _)
        iexists _; iexact H7
      · exfalso; have hN : t.val < 16 := lt_of_lt_of_eq t.isLt (show cfg0.N = 16 from N_0); omega
  · by_cases h1 : t.val % 16 = 15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1)], after0_7]
      by_cases hz : t.val = 0
      · exfalso; have hN : t.val < 16 := lt_of_lt_of_eq t.isLt (show cfg0.N = 16 from N_0); omega
      · rw [PhiS_castSucc m c t, PhiS_pos m c _ _ hz]
        rw [outsAt0_C m c t h0 h1]
        unfold out0_C_6 out0_C_7 sout0_C_0 sout0_C_1 sout0_C_2; (try dsimp only)
        iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iintro ⟨H0, H1, H2, H3, H4, H5, ⟨%e6, H6⟩, ⟨%e7, H7⟩, HS0, HS1, HS2, HS3, HS4, HS5, HS6, HS7⟩
        isplitl [HS0 HS1 HS2 HS3 HS4 HS5 HS6 HS7 Hg]
        · isplitl [HS0 HS1 HS2 HS3 HS4 HS5 HS6 HS7]
          · isplitl [HS0]
            · iexact HS0
            isplitl [HS1]
            · iexact HS1
            isplitl [HS2]
            · unfold owns; iexists _; isplitr
              swap; · iexact HS2
              ipureintro; rfl
            isplitl [HS3]
            · iexact HS3
            isplitl [HS4]
            · iexact HS4
            isplitl [HS5]
            · iexact HS5
            isplitl [HS6]
            · iexact HS6
            iexact HS7
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      by_cases hz : t.val = 0
      · exfalso; have hN : t.val < 16 := lt_of_lt_of_eq t.isLt (show cfg0.N = 16 from N_0); omega
      · rw [PhiS_castSucc m c t, PhiS_pos m c _ _ hz]
        rw [outsAt0_B m c t h0 h1]
        unfold out0_B_6 sout0_B_0 sout0_B_1 sout0_B_2; (try dsimp only)
        iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _ _).2.2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        iintro ⟨H0, H1, H2, H3, H4, H5, ⟨%e6, H6⟩, H7, HS0, HS1, HS2, HS3, HS4, HS5, HS6, HS7⟩
        isplitl [HS0 HS1 HS2 HS3 HS4 HS5 HS6 HS7 Hg]
        · isplitl [HS0 HS1 HS2 HS3 HS4 HS5 HS6 HS7]
          · isplitl [HS0]
            · iexact HS0
            isplitl [HS1]
            · iexact HS1
            isplitl [HS2]
            · unfold owns; iexists _; isplitr
              swap; · iexact HS2
              ipureintro; rfl
            isplitl [HS3]
            · iexact HS3
            isplitl [HS4]
            · iexact HS4
            isplitl [HS5]
            · iexact HS5
            isplitl [HS6]
            · iexact HS6
            iexact HS7
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _ _ _ _ _ _ _ _ _ _ _ _ _ _)
        iexists _; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7⟩, Hg⟩
  isplitl [HS0 HS1 HS2 HS3 HS4 HS5 HS6 HS7]
  · isplitl [HS0]
    · iexists _; iexact HS0
    isplitl [HS1]
    · iexists _; iexact HS1
    isplitl [HS2]
    · iexists _; iexact HS2
    isplitl [HS3]
    · iexact HS3
    isplitl [HS4]
    · iexact HS4
    isplitl [HS5]
    · iexact HS5
    isplitl [HS6]
    · iexact HS6
    iexact HS7
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.Pieces.lean ====
module

public import Idealize.ShloMosaic.Lib.Pointwise
public import Idealize.ShloMosaic.Lib.WritesUnit
public import Idealize.ShloMosaic.Lib.Pipeline.Value
public import Idealize.ShloMosaic.Lib.Pipeline.FrameBody
public import Idealize.ShloMosaic.Lib.Pipeline.ValueKit.Geometry

@[expose] public section

set_option maxRecDepth 16384

noncomputable section

namespace Cert.Tools

open Idealize.ShloMosaic Idealize.ShloMosaic.TcCoe Idealize.ShloMosaic.Tactic

variable {sig : RefSig} {κ : Kind} {sp : Space} {s : Shape} {e : EltTy} {Val : EltTy → Type}

/-- Writes in two lists are the writes of the first list over what the second list left. -/
theorem writes_append (v : View sig κ sp s e) (f : v.ty.Contents Val) (T L : List (View.Piece Val s e)) :
    v.writes Val f (T ++ L) = v.writes Val (v.writes Val f L) T := by
  induction T with
  | nil => rfl
  | cons p T ih => rw [List.cons_append, View.writes_cons, View.writes_cons, ih]

/-- An element that no piece of a list covers is read as it was before the list was written. -/
theorem read_writes_of_not_cover (v : View sig κ sp s e) (f : v.ty.Contents Val) (T : List (View.Piece Val s e)) (y : s.Idx)
    (h : ∀ p ∈ T, y ∉ p.1.set) : v.read Val (v.writes Val f T) y = v.read Val f y := by
  induction T with
  | nil => rfl
  | cons p T ih =>
    rw [← ih fun q hq => h q (List.mem_cons_of_mem _ hq)]
    rw [View.writes_cons]
    refine View.read_slice_write_of_not_mem _ _ _ _ ?_
    rw [Rect.map_emb_univ]
    exact h p List.mem_cons_self

/-- What is read at `y` after the pieces of `T` were written over those of `L`: the common value `G` of `T`'s pieces where they cover `y`,
    and what `L` left elsewhere. -/
theorem read_writes_append (v : View sig κ sp s e) (f : v.ty.Contents Val) (T L : List (View.Piece Val s e)) (G : s.Idx → Val e)
    (hG : ∀ p ∈ T, ∀ x, p.2 x = G (p.1.emb x)) (y : s.Idx) (P : Prop) [Decidable P]
    (h1 : P → ∃ p ∈ T, y ∈ p.1.set) (h2 : ¬ P → ∀ p ∈ T, y ∉ p.1.set) :
    v.read Val (v.writes Val f (T ++ L)) y = if P then G y else v.read Val (v.writes Val f L) y := by
  rw [writes_append]
  split
  · next h => exact View.read_writes_apply_of_pieces v _ G T hG y (h1 h)
  · next h => exact read_writes_of_not_cover v _ T y (h2 h)

end Cert.Tools

end
-- ==== Proof.LoopDg.lean ====
module

public import proofs.«01_k».proof.Proof.Gen.KernelIdeal.Loops
public import proofs.«01_k».proof.Proof.Pieces

@[expose] public section

set_option maxRecDepth 16384

noncomputable section

namespace Cert.KernelIdeal.Val

open Idealize.ShloMosaic Idealize.ShloMosaic.TcCoe Idealize.ShloMosaic.Tactic
open Cert.KernelIdeal Cert.KernelIdeal.Gen

/-- The product of the two codes at token `s` and column `256 q + l`. -/
def codeProd (x2 x4 : S1x128x18432.Idx → EReal) (q : Fin 72) (s : Fin 128) (l : Fin 256) : EReal :=
  x2 (ix3 (n0 := 1) (n1 := 128) (n2 := 18432) 0 s ⟨256 * q.val + l.val, by omega⟩)
    * x4 (ix3 (n0 := 1) (n1 := 128) (n2 := 18432) 0 s ⟨256 * q.val + l.val, by omega⟩)

/-- One more grid point in the running sums for dgamma: the weighted sum over its 128 tokens is added. -/
def dgStep (x2 x4 : S1x128x18432.Idx → EReal) (x14 : S18x16x128.Idx → EReal) (f : S72x8x256.Idx → EReal) (y : S72x8x256.Idx) : EReal :=
  f y + ∑ s : Fin 128, x14 (ix3 (n0 := 18) (n1 := 16) (n2 := 128) ⟨(y 0).val / 4, by have := (y 0).isLt; simp at this; omega⟩
      ⟨(y 1).val, by have := (y 1).isLt; simp at this; omega⟩ s) * codeProd x2 x4 (y 0) s (y 2)

/-- The block that one chunk of 256 columns stores. -/
theorem dg_block (x2 x4 : S1x128x18432.Idx → EReal) (x14 : S18x16x128.Idx → EReal) (f : S72x8x256.Idx → EReal)
    (k n : ℕ) (hk : k < 18) (hn : n < 4) (o4 o6 o7 : Fin 3 → ℕ)
    (e4 : o4 = ![0, 0, 1024 * k + 256 * n]) (e6 : o6 = ![k, 0, 0]) (e7 : o7 = ![4 * k + n, 0, 0])
    (h4 : ∀ a, o4 a + S1x128x256.size a ≤ S1x128x18432.size a) (h6 : ∀ a, o6 a + S1x16x128.size a ≤ S18x16x128.size a)
    (h7 : ∀ a, o7 a + S1x8x256.size a ≤ S72x8x256.size a) (x : S1x8x256.Idx) :
    k0_pay28 (F := Ideal) (View.ld (Val := Elt Ideal) (e' := .fp8e4m3) x2 (Rect.unit (s := S1x128x18432) o4 S1x128x256.size h4))
      (View.ld (Val := Elt Ideal) (e' := .fp8e5m2) x4 (Rect.unit (s := S1x128x18432) o4 S1x128x256.size h4))
      (View.ld (Val := Elt Ideal) (e' := .bf16) x14 (Rect.unit (s := S18x16x128) o6 S1x16x128.size h6))
      (View.ld (Val := Elt Ideal) (e' := .f32) f (Rect.unit (s := S72x8x256) o7 S1x8x256.size h7)) x
      = dgStep x2 x4 x14 f ((Rect.unit (s := S72x8x256) o7 S1x8x256.size h7).emb x) := by
  subst e4 e6 e7
  have h1 := (x 1).isLt
  have h2 := (x 2).isLt
  simp at h1 h2
  have e : (Rect.unit (s := S72x8x256) ![4 * k + n, 0, 0] S1x8x256.size h7).emb x
      = ix3 (n0 := 72) (n1 := 8) (n2 := 256) ⟨4 * k + n, by omega⟩ (x 1) (x 2) := by
    funext a; apply Fin.ext
    refine (ValueKit.rect_emb_unit_val _ _ _ _ _).trans ?_
    match a with
    | ⟨0, _⟩ => have := (x 0).isLt; simp at this ⊢
    | ⟨1, _⟩ => simp
    | ⟨2, _⟩ => simp
  rw [e]
  unfold dgStep codeProd
  pointwise [k0_pay28, k0_pay26]
  have e1 : (4 * k + n) / 4 = k := by omega
  have e2 : 256 * (4 * k + n) + (x 2).val = 1024 * k + 256 * n + (x 2).val := by omega
  simp only [e1, e2]

variable (𝒱 : Variants) (c : Dev nD) (bd : Option 𝒱.V) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole)

/-- The four blocks that a trip of the reducing loop stores are the running sums with this grid point added. -/
theorem trip_dg (v18 v29 : FVec Ideal S1x128 .f32) (v37 : FVec Ideal S144x128 .f32) (X_arg2 : BufTy.Contents (Elt Ideal) arg2.view.ty) (X_arg4 : BufTy.Contents (Elt Ideal) arg4.view.ty) (X_arg11 : BufTy.Contents (Elt Ideal) arg11.view.ty) (X_arg13 : BufTy.Contents (Elt Ideal) arg13.view.ty) (X_arg14 : BufTy.Contents (Elt Ideal) arg14.view.ty) (k : Fin k0_t2_loop.trips)
    (f12 : BufTy.Contents (Elt Ideal) arg12.view.ty) (f15 : BufTy.Contents (Elt Ideal) arg15.view.ty) :
    ∀ p ∈ (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v29 v37 X_arg2 X_arg4 X_arg11 X_arg13 X_arg14 k f12 f15).1, ∀ x,
      p.2 x = dgStep (arg2.view.read (Elt Ideal) X_arg2) (arg4.view.read (Elt Ideal) X_arg4) (arg14.view.read (Elt Ideal) X_arg14)
        (arg12.view.read (Elt Ideal) f12) (p.1.emb x) := by
  have hk : k.val < 18 := k.isLt
  unfold tripL_k0_t2 trip_k0_t2
  dsimp only
  simp only [List.forall_mem_cons]
  exact ⟨fun x => dg_block _ _ _ _ k.val 3 hk (by omega) _ _ _ (k0_off4_eq k ⟨3, by decide⟩) (k0_off6_eq k) (k0_off7_eq k ⟨3, by decide⟩) _ _ _ x,
    fun x => dg_block _ _ _ _ k.val 2 hk (by omega) _ _ _ (k0_off4_eq k ⟨2, by decide⟩) (k0_off6_eq k) (k0_off7_eq k ⟨2, by decide⟩) _ _ _ x,
    fun x => dg_block _ _ _ _ k.val 1 hk (by omega) _ _ _ (k0_off4_eq k ⟨1, by decide⟩) (k0_off6_eq k) (k0_off7_eq k ⟨1, by decide⟩) _ _ _ x,
    fun x => dg_block _ _ _ _ k.val 0 hk (by omega) _ _ _ (k0_off4_eq k ⟨0, by decide⟩) (k0_off6_eq k) (k0_off7_eq k ⟨0, by decide⟩) _ _ _ x, fun p hp => absurd hp List.not_mem_nil⟩

end Cert.KernelIdeal.Val

end
-- ==== Proof.LoopC.lean ====
module

public import proofs.«01_k».proof.Proof.LoopDg
public import Idealize.ShloMosaic.Lib.VecWindow

@[expose] public section

set_option maxRecDepth 16384

noncomputable section

namespace Cert.KernelIdeal.Val

open Idealize.ShloMosaic Idealize.ShloMosaic.TcCoe Idealize.ShloMosaic.Tactic
open Cert.KernelIdeal Cert.KernelIdeal.Gen

/-- One chunk's share of row `r` of the partial product: the sum over its 256 columns. -/
def cChunk (x2 x4 : S1x128x18432.Idx → EReal) (x11 : S72x32x256.Idx → EReal) (q : Fin 72) (r : Fin 32) (s : Fin 128) : EReal :=
  ∑ l : Fin 256, x11 (ix3 (n0 := 72) (n1 := 32) (n2 := 256) q r l) * codeProd x2 x4 q s l

/-- The shares of the four chunks of group `k`. -/
def cRow (x2 x4 : S1x128x18432.Idx → EReal) (x11 : S72x32x256.Idx → EReal) (k : Fin 18) (r : Fin 32) (s : Fin 128) : EReal :=
  cChunk x2 x4 x11 ⟨4 * k.val, by omega⟩ r s + cChunk x2 x4 x11 ⟨4 * k.val + 1, by omega⟩ r s
    + cChunk x2 x4 x11 ⟨4 * k.val + 2, by omega⟩ r s + cChunk x2 x4 x11 ⟨4 * k.val + 3, by omega⟩ r s

/-- One more group of 1024 columns in the running sums for the inner product. -/
def cStep (x2 x4 : S1x128x18432.Idx → EReal) (x11 : S72x32x256.Idx → EReal) (x13 : S144x128.Idx → EReal) (k : Fin 18)
    (f : S8x128.Idx → EReal) (y : S8x128.Idx) : EReal :=
  f y + (cRow x2 x4 x11 k ⟨(y 0).val, by have := (y 0).isLt; simp at this; omega⟩ (y 1)
      + cRow x2 x4 x11 k ⟨8 + (y 0).val, by have := (y 0).isLt; simp at this; omega⟩ (y 1)
      + cRow x2 x4 x11 k ⟨16 + (y 0).val, by have := (y 0).isLt; simp at this; omega⟩ (y 1))
    * x13 (ix2 (n0 := 144) (n1 := 128) ⟨8 * k.val + (y 0).val, by have := (y 0).isLt; simp at this; omega⟩ (y 1))

/-- The block of a chunk's 256 columns, at an index. -/
theorem c_block (x2 x4 : S1x128x18432.Idx → EReal) (x11 : S72x32x256.Idx → EReal) (x13 : S144x128.Idx → EReal) (f : S8x128.Idx → EReal)
    (k : Fin 18) (o40 o41 o42 o43 o50 o51 o52 o53 : Fin 3 → ℕ) (o8 : Fin 2 → ℕ)
    (e40 : o40 = ![0, 0, 1024 * k.val + 256 * 0]) (e41 : o41 = ![0, 0, 1024 * k.val + 256 * 1])
    (e42 : o42 = ![0, 0, 1024 * k.val + 256 * 2]) (e43 : o43 = ![0, 0, 1024 * k.val + 256 * 3])
    (e50 : o50 = ![4 * k.val + 0, 0, 0]) (e51 : o51 = ![4 * k.val + 1, 0, 0])
    (e52 : o52 = ![4 * k.val + 2, 0, 0]) (e53 : o53 = ![4 * k.val + 3, 0, 0]) (e8 : o8 = ![8 * k.val, 0])
    (h40 : ∀ a, o40 a + S1x128x256.size a ≤ S1x128x18432.size a) (h50 : ∀ a, o50 a + S1x32x256.size a ≤ S72x32x256.size a)
    (h41 : ∀ a, o41 a + S1x128x256.size a ≤ S1x128x18432.size a) (h51 : ∀ a, o51 a + S1x32x256.size a ≤ S72x32x256.size a)
    (h42 : ∀ a, o42 a + S1x128x256.size a ≤ S1x128x18432.size a) (h52 : ∀ a, o52 a + S1x32x256.size a ≤ S72x32x256.size a)
    (h43 : ∀ a, o43 a + S1x128x256.size a ≤ S1x128x18432.size a) (h53 : ∀ a, o53 a + S1x32x256.size a ≤ S72x32x256.size a)
    (h8 : ∀ a, o8 a + S8x128.size a ≤ S144x128.size a) (h0 : ∀ a, (![0, 0] : Fin 2 → ℕ) a + S8x128.size a ≤ S8x128.size a) (x : S8x128.Idx) :
    k0_pay38 (F := Ideal) (k0_pay34 (k0_pay30 (k0_pay27 (View.ld (Val := Elt Ideal) (e' := .fp8e4m3) x2 (Rect.unit (s := S1x128x18432) o40 S1x128x256.size h40)) (View.ld (Val := Elt Ideal) (e' := .fp8e5m2) x4 (Rect.unit (s := S1x128x18432) o40 S1x128x256.size h40)) (View.ld (Val := Elt Ideal) (e' := .bf16) x11 (Rect.unit (s := S72x32x256) o50 S1x32x256.size h50))) (View.ld (Val := Elt Ideal) (e' := .fp8e4m3) x2 (Rect.unit (s := S1x128x18432) o41 S1x128x256.size h41)) (View.ld (Val := Elt Ideal) (e' := .fp8e5m2) x4 (Rect.unit (s := S1x128x18432) o41 S1x128x256.size h41)) (View.ld (Val := Elt Ideal) (e' := .bf16) x11 (Rect.unit (s := S72x32x256) o51 S1x32x256.size h51))) (k0_pay32 (View.ld (Val := Elt Ideal) (e' := .fp8e4m3) x2 (Rect.unit (s := S1x128x18432) o42 S1x128x256.size h42))) (View.ld (Val := Elt Ideal) (e' := .fp8e5m2) x4 (Rect.unit (s := S1x128x18432) o42 S1x128x256.size h42)) (View.ld (Val := Elt Ideal) (e' := .bf16) x11 (Rect.unit (s := S72x32x256) o52 S1x32x256.size h52))) (k0_pay36 (View.ld (Val := Elt Ideal) (e' := .fp8e4m3) x2 (Rect.unit (s := S1x128x18432) o43 S1x128x256.size h43)) (View.ld (Val := Elt Ideal) (e' := .fp8e5m2) x4 (Rect.unit (s := S1x128x18432) o43 S1x128x256.size h43))) (View.ld (Val := Elt Ideal) (e' := .bf16) x11 (Rect.unit (s := S72x32x256) o53 S1x32x256.size h53))
      (View.ld (Val := Elt Ideal) (e' := .f32) f (Rect.unit (s := S8x128) ![0, 0] S8x128.size h0))
      (View.ld (Val := Elt Ideal) (e' := .f32) x13 (Rect.unit (s := S144x128) o8 S8x128.size h8)) x
      = cStep x2 x4 x11 x13 k f x := by
  subst e40 e41 e42 e43 e50 e51 e52 e53 e8
  have h1 := (x 0).isLt
  simp at h1
  unfold cStep cRow cChunk codeProd
  pointwise [k0_pay38, k0_pay34, k0_pay30, k0_pay27, k0_pay32, k0_pay36, k0_pay26, k0_pay29, k0_pay33]
  have e0 : 256 * (4 * k.val) = 1024 * k.val := by omega
  have e1 : 256 * (4 * k.val + 1) = 1024 * k.val + 256 := by omega
  have e2 : 256 * (4 * k.val + 2) = 1024 * k.val + 512 := by omega
  have e3 : 256 * (4 * k.val + 3) = 1024 * k.val + 768 := by omega
  simp only [e0, e1, e2, e3]

variable (𝒱 : Variants) (c : Dev nD) (bd : Option 𝒱.V) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole)

/-- The block that a trip of the reducing loop stores is the running sums with this group of columns added. -/
theorem trip_c (v18 v29 : FVec Ideal S1x128 .f32) (v37 : FVec Ideal S144x128 .f32) (X_arg2 : BufTy.Contents (Elt Ideal) arg2.view.ty) (X_arg4 : BufTy.Contents (Elt Ideal) arg4.view.ty) (X_arg11 : BufTy.Contents (Elt Ideal) arg11.view.ty) (X_arg13 : BufTy.Contents (Elt Ideal) arg13.view.ty) (X_arg14 : BufTy.Contents (Elt Ideal) arg14.view.ty) (k : Fin k0_t2_loop.trips)
    (f12 : BufTy.Contents (Elt Ideal) arg12.view.ty) (f15 : BufTy.Contents (Elt Ideal) arg15.view.ty) :
    ∀ p ∈ (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v29 v37 X_arg2 X_arg4 X_arg11 X_arg13 X_arg14 k f12 f15).2, ∀ x,
      p.2 x = cStep (arg2.view.read (Elt Ideal) X_arg2) (arg4.view.read (Elt Ideal) X_arg4) (arg11.view.read (Elt Ideal) X_arg11)
        (arg13.view.read (Elt Ideal) X_arg13) k (arg15.view.read (Elt Ideal) f15) (p.1.emb x) := by
  have hk : k.val < 18 := k.isLt
  unfold tripL_k0_t2 trip_k0_t2
  dsimp only
  simp only [List.forall_mem_cons]
  refine ⟨fun x => ?_, fun p hp => absurd hp List.not_mem_nil⟩
  rw [Rect.emb_unit_full]
  exact c_block _ _ _ _ _ k _ _ _ _ _ _ _ _ _ (k0_off4_eq k ⟨0, by decide⟩) (k0_off4_eq k ⟨1, by decide⟩) (k0_off4_eq k ⟨2, by decide⟩) (k0_off4_eq k ⟨3, by decide⟩) (k0_off5_eq k ⟨0, by decide⟩) (k0_off5_eq k ⟨1, by decide⟩) (k0_off5_eq k ⟨2, by decide⟩) (k0_off5_eq k ⟨3, by decide⟩) (k0_off8_eq k)
    _ _ _ _ _ _ _ _ _ _ x

end Cert.KernelIdeal.Val

end
-- ==== Proof.LoopT2.lean ====
module

public import proofs.«01_k».proof.Proof.LoopC

@[expose] public section

set_option maxRecDepth 16384

noncomputable section

namespace Cert.KernelIdeal.Val

open Idealize.ShloMosaic Idealize.ShloMosaic.TcCoe Idealize.ShloMosaic.Tactic
open Cert.KernelIdeal Cert.KernelIdeal.Gen

/-- The running sums of the inner product after the first `n` groups of columns. -/
def cAcc (x2 x4 : S1x128x18432.Idx → EReal) (x11 : S72x32x256.Idx → EReal) (x13 : S144x128.Idx → EReal) (f : S8x128.Idx → EReal) : ℕ → S8x128.Idx → EReal
  | 0 => f
  | n + 1 => if h : n < 18 then cStep x2 x4 x11 x13 ⟨n, h⟩ (cAcc x2 x4 x11 x13 f n) else cAcc x2 x4 x11 x13 f n

variable (𝒱 : Variants) (c : Dev nD) (bd : Option 𝒱.V) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole)

/-- The blocks that a trip stores into the sums for dgamma are the four chunks of its group. -/
theorem trip_dg_cover (v18 v29 : FVec Ideal S1x128 .f32) (v37 : FVec Ideal S144x128 .f32) (X_arg2 : BufTy.Contents (Elt Ideal) arg2.view.ty) (X_arg4 : BufTy.Contents (Elt Ideal) arg4.view.ty) (X_arg11 : BufTy.Contents (Elt Ideal) arg11.view.ty) (X_arg13 : BufTy.Contents (Elt Ideal) arg13.view.ty) (X_arg14 : BufTy.Contents (Elt Ideal) arg14.view.ty) (k : Fin k0_t2_loop.trips) (f12 : BufTy.Contents (Elt Ideal) arg12.view.ty) (f15 : BufTy.Contents (Elt Ideal) arg15.view.ty) (y : S72x8x256.Idx) :
    (∃ p ∈ (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v29 v37 X_arg2 X_arg4 X_arg11 X_arg13 X_arg14 k f12 f15).1, y ∈ p.1.set) ↔ (y 0).val / 4 = k.val := by
  have o0 : k0_off7 k 0#32 = ![4 * k.val + 0, 0, 0] := k0_off7_eq k ⟨0, by decide⟩
  have o1 : k0_off7 k 1#32 = ![4 * k.val + 1, 0, 0] := k0_off7_eq k ⟨1, by decide⟩
  have o2 : k0_off7 k 2#32 = ![4 * k.val + 2, 0, 0] := k0_off7_eq k ⟨2, by decide⟩
  have o3 : k0_off7 k 3#32 = ![4 * k.val + 3, 0, 0] := k0_off7_eq k ⟨3, by decide⟩
  have h1 := (y 1).isLt
  have h2 := (y 2).isLt
  simp at h1 h2
  unfold tripL_k0_t2 trip_k0_t2
  dsimp only
  simp only [List.mem_cons, exists_eq_or_imp, exists_eq_left, List.not_mem_nil, false_and, exists_false, or_false, Rect.mem_set_unit, o0, o1, o2, o3]
  have hk : k.val < 18 := k.isLt
  have h0 : (y 0).val < 72 := (y 0).isLt
  simp [Fin.forall_fin_succ]
  omega

/-- After `n` trips of the reducing loop: the sums for dgamma have this grid point added in the first `n` groups. -/
theorem read_dg (v18 v29 : FVec Ideal S1x128 .f32) (v37 : FVec Ideal S144x128 .f32) (X_arg2 : BufTy.Contents (Elt Ideal) arg2.view.ty) (X_arg4 : BufTy.Contents (Elt Ideal) arg4.view.ty) (X_arg11 : BufTy.Contents (Elt Ideal) arg11.view.ty) (X_arg13 : BufTy.Contents (Elt Ideal) arg13.view.ty) (X_arg14 : BufTy.Contents (Elt Ideal) arg14.view.ty) (f12 : BufTy.Contents (Elt Ideal) arg12.view.ty) (f15 : BufTy.Contents (Elt Ideal) arg15.view.ty) (n : ℕ) (hn : n ≤ k0_t2_loop.trips) (y : S72x8x256.Idx) :
    arg12.view.read (Elt Ideal) (arg12.view.writes (Elt Ideal) f12 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v29 v37 X_arg2 X_arg4 X_arg11 X_arg13 X_arg14 f12 f15 n).1) y
      = if (y 0).val / 4 < n then dgStep (arg2.view.read (Elt Ideal) X_arg2) (arg4.view.read (Elt Ideal) X_arg4) (arg14.view.read (Elt Ideal) X_arg14) (arg12.view.read (Elt Ideal) f12) y
        else arg12.view.read (Elt Ideal) f12 y := by
  induction n generalizing y with
  | zero => rfl
  | succ n ih =>
    rw [pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v29 v37 X_arg2 X_arg4 X_arg11 X_arg13 X_arg14 f12 f15 ⟨n, hn⟩]
    refine (Tools.read_writes_append arg12.view f12 _ _ _ (trip_dg 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v29 v37 X_arg2 X_arg4 X_arg11 X_arg13 X_arg14 ⟨n, hn⟩ _ _) y ((y 0).val / 4 = n)
      (fun h => (trip_dg_cover 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v29 v37 X_arg2 X_arg4 X_arg11 X_arg13 X_arg14 ⟨n, hn⟩ _ _ y).2 h)
      (fun h p hp hy => h ((trip_dg_cover 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v29 v37 X_arg2 X_arg4 X_arg11 X_arg13 X_arg14 ⟨n, hn⟩ _ _ y).1 ⟨p, hp, hy⟩))).trans ?_
    rw [ih (by omega) y]
    by_cases h : (y 0).val / 4 = n
    · rw [if_pos h, if_pos (by omega)]
      unfold dgStep
      rw [ih (by omega) y, if_neg (by omega)]
    · rw [if_neg h]
      by_cases h' : (y 0).val / 4 < n
      · rw [if_pos h', if_pos (by omega)]
      · rw [if_neg h', if_neg (by omega)]

/-- After `n` trips of the reducing loop: the running sums of the inner product over the first `n` groups. -/
theorem read_c (v18 v29 : FVec Ideal S1x128 .f32) (v37 : FVec Ideal S144x128 .f32) (X_arg2 : BufTy.Contents (Elt Ideal) arg2.view.ty) (X_arg4 : BufTy.Contents (Elt Ideal) arg4.view.ty) (X_arg11 : BufTy.Contents (Elt Ideal) arg11.view.ty) (X_arg13 : BufTy.Contents (Elt Ideal) arg13.view.ty) (X_arg14 : BufTy.Contents (Elt Ideal) arg14.view.ty) (f12 : BufTy.Contents (Elt Ideal) arg12.view.ty) (f15 : BufTy.Contents (Elt Ideal) arg15.view.ty) (n : ℕ) (hn : n ≤ k0_t2_loop.trips) :
    arg15.view.read (Elt Ideal) (arg15.view.writes (Elt Ideal) f15 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v29 v37 X_arg2 X_arg4 X_arg11 X_arg13 X_arg14 f12 f15 n).2)
      = cAcc (arg2.view.read (Elt Ideal) X_arg2) (arg4.view.read (Elt Ideal) X_arg4) (arg11.view.read (Elt Ideal) X_arg11) (arg13.view.read (Elt Ideal) X_arg13) (arg15.view.read (Elt Ideal) f15) n := by
  induction n with
  | zero => rfl
  | succ n ih =>
    rw [pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v29 v37 X_arg2 X_arg4 X_arg11 X_arg13 X_arg14 f12 f15 ⟨n, hn⟩]
    funext y
    refine (Tools.read_writes_append arg15.view f15 _ _ _ (trip_c 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v18 v29 v37 X_arg2 X_arg4 X_arg11 X_arg13 X_arg14 ⟨n, hn⟩ _ _) y True
      (fun _ => ?_) (fun h => absurd trivial h)).trans ?_
    · unfold tripL_k0_t2 trip_k0_t2
      dsimp only
      refine ⟨_, List.mem_cons_self, ?_⟩
      rw [Rect.mem_set_unit]
      have h0 := (y 0).isLt
      have h1 := (y 1).isLt
      simp at h0 h1
      simp [Fin.forall_fin_succ, h0, h1]
    · rw [if_pos trivial, ih (by omega)]
      have hn' : n < 18 := hn
      simp only [cAcc, dif_pos hn']
      rfl

end Cert.KernelIdeal.Val

end
-- ==== Proof.LoopT4.lean ====
module

public import proofs.«01_k».proof.Proof.LoopDg

@[expose] public section

set_option maxRecDepth 16384

noncomputable section

namespace Cert.KernelIdeal.Val

open Idealize.ShloMosaic Idealize.ShloMosaic.TcCoe Idealize.ShloMosaic.Tactic
open Cert.KernelIdeal Cert.KernelIdeal.Gen

/-- The gradient of the gain: the diagonal entries of the sums for dgamma, times the inverse gain. -/
def dgammaG (x12 : S72x8x256.Idx → EReal) (x10 : S144x128.Idx → EReal) (y : S144x128.Idx) : EReal :=
  x12 (ix3 (n0 := 72) (n1 := 8) (n2 := 256) ⟨(y 0).val / 2, by have := (y 0).isLt; simp at this; omega⟩
    ⟨(y 0).val % 8, by omega⟩ ⟨128 * ((y 0).val % 2) + (y 1).val, by have := (y 1).isLt; simp at this; omega⟩) * x10 y

/-- A block of eight rows of the gradient of the gain, at an index. -/
theorem dgamma_block (x12 : S72x8x256.Idx → EReal) (x10 : S144x128.Idx → EReal) (v : IVec S8x128 32)
    (hv : ∀ r l, v (ix2 (n0 := 8) (n1 := 128) r l) = BitVec.ofNat 32 r.val) (k : Fin 18)
    (a0 b0 a1 b1 a2 b2 a3 b3 : Fin 3 → ℕ) (o : Fin 2 → ℕ)
    (ea0 : a0 = ![4 * k.val + 0, 0, 0])
    (eb0 : b0 = ![4 * k.val + 0, 0, 128])
    (ea1 : a1 = ![4 * k.val + 1, 0, 0])
    (eb1 : b1 = ![4 * k.val + 1, 0, 128])
    (ea2 : a2 = ![4 * k.val + 2, 0, 0])
    (eb2 : b2 = ![4 * k.val + 2, 0, 128])
    (ea3 : a3 = ![4 * k.val + 3, 0, 0])
    (eb3 : b3 = ![4 * k.val + 3, 0, 128])
    (eo : o = ![8 * k.val, 0])
    (ha0 : ∀ a, a0 a + S1x8x128.size a ≤ S72x8x256.size a)
    (hb0 : ∀ a, b0 a + S1x8x128.size a ≤ S72x8x256.size a)
    (ha1 : ∀ a, a1 a + S1x8x128.size a ≤ S72x8x256.size a)
    (hb1 : ∀ a, b1 a + S1x8x128.size a ≤ S72x8x256.size a)
    (ha2 : ∀ a, a2 a + S1x8x128.size a ≤ S72x8x256.size a)
    (hb2 : ∀ a, b2 a + S1x8x128.size a ≤ S72x8x256.size a)
    (ha3 : ∀ a, a3 a + S1x8x128.size a ≤ S72x8x256.size a)
    (hb3 : ∀ a, b3 a + S1x8x128.size a ≤ S72x8x256.size a)
    (ho : ∀ a, o a + S8x128.size a ≤ S144x128.size a) (x : S8x128.Idx) :
    k0_pay6 (F := Ideal) (k0_pay52 v (View.ld (Val := Elt Ideal) (e' := .f32) x12 (Rect.unit (s := S72x8x256) a0 S1x8x128.size ha0)) (View.ld (Val := Elt Ideal) (e' := .f32) x12 (Rect.unit (s := S72x8x256) b0 S1x8x128.size hb0)) (View.ld (Val := Elt Ideal) (e' := .f32) x12 (Rect.unit (s := S72x8x256) a1 S1x8x128.size ha1)) (View.ld (Val := Elt Ideal) (e' := .f32) x12 (Rect.unit (s := S72x8x256) b1 S1x8x128.size hb1)))
      (View.ld (Val := Elt Ideal) (e' := .f32) x12 (Rect.unit (s := S72x8x256) a2 S1x8x128.size ha2)) (View.ld (Val := Elt Ideal) (e' := .f32) x12 (Rect.unit (s := S72x8x256) b2 S1x8x128.size hb2)) (View.ld (Val := Elt Ideal) (e' := .f32) x12 (Rect.unit (s := S72x8x256) a3 S1x8x128.size ha3)) (View.ld (Val := Elt Ideal) (e' := .f32) x12 (Rect.unit (s := S72x8x256) b3 S1x8x128.size hb3))
      (View.ld (Val := Elt Ideal) (e' := .f32) x10 (Rect.unit (s := S144x128) o S8x128.size ho)) x
      = dgammaG x12 x10 ((Rect.unit (s := S144x128) o S8x128.size ho).emb x) := by
  subst ea0 eb0 ea1 eb1 ea2 eb2 ea3 eb3 eo
  have h0 := (x 0).isLt
  have h1 := (x 1).isLt
  simp at h0 h1
  have e : (Rect.unit (s := S144x128) ![8 * k.val, 0] S8x128.size ho).emb x
      = ix2 (n0 := 144) (n1 := 128) ⟨8 * k.val + (x 0).val, by omega⟩ (x 1) := by
    funext a; apply Fin.ext
    refine (ValueKit.rect_emb_unit_val _ _ _ _ _).trans ?_
    match a with
    | ⟨0, _⟩ => simp
    | ⟨1, _⟩ => simp
  rw [e]
  obtain ⟨r, l, rfl⟩ : ∃ (r : Fin 8) (l : Fin 128), x = ix2 (n0 := 8) (n1 := 128) r l := ⟨x 0, x 1, eq_ix2 x⟩
  unfold dgammaG
  pointwise [k0_pay6, k0_pay52, hv]
  have hk := k.isLt
  have a1 : ∀ n, (8 * k.val + n) / 2 = 4 * k.val + n / 2 := fun n => by omega
  have a2 : ∀ n, (8 * k.val + n) % 8 = n % 8 := fun n => by omega
  have a3 : ∀ n, (8 * k.val + n) % 2 = n % 2 := fun n => by omega
  have a4 : 8 * k.val / 2 = 4 * k.val := by omega
  have a5 : 8 * k.val % 2 = 0 := by omega
  fin_cases r <;> simp [Scalar.select, IntOp.cmpi, a1, a2, a3, a4, a5]

variable (𝒱 : Variants) (c : Dev nD) (bd : Option 𝒱.V) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole)

/-- The block that a trip of the last loop stores holds the gradient of the gain. -/
theorem trip_dgamma (k0_h2 : k0_cond2 i = 1#1) (v160 : IVec S8x128 32) (X_arg10 : BufTy.Contents (Elt Ideal) arg10.view.ty) (X_arg12 : BufTy.Contents (Elt Ideal) arg12.view.ty)
    (hv : ∀ r l, v160 (ix2 (n0 := 8) (n1 := 128) r l) = BitVec.ofNat 32 r.val) (k : Fin k0_t4_loop.trips) :
    ∀ p ∈ tripL_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 v160 X_arg10 X_arg12 k, ∀ x,
      p.2 x = dgammaG (arg12.view.read (Elt Ideal) X_arg12) (arg10.view.read (Elt Ideal) X_arg10) (p.1.emb x) := by
  unfold tripL_k0_t4 trip_k0_t4
  dsimp only
  simp only [List.forall_mem_cons]
  exact ⟨fun x => dgamma_block _ _ _ hv k _ _ _ _ _ _ _ _ _ (k0_off19_eq k ⟨0, by decide⟩) (k0_off20_eq k ⟨0, by decide⟩) (k0_off19_eq k ⟨1, by decide⟩) (k0_off20_eq k ⟨1, by decide⟩) (k0_off19_eq k ⟨2, by decide⟩) (k0_off20_eq k ⟨2, by decide⟩) (k0_off19_eq k ⟨3, by decide⟩) (k0_off20_eq k ⟨3, by decide⟩) (k0_off21_eq k)
    _ _ _ _ _ _ _ _ _ x, fun p hp => absurd hp List.not_mem_nil⟩

/-- Every block that the trips before `n` of the last loop store holds the gradient of the gain. -/
theorem pieces_dgamma (k0_h2 : k0_cond2 i = 1#1) (v160 : IVec S8x128 32) (X_arg10 : BufTy.Contents (Elt Ideal) arg10.view.ty) (X_arg12 : BufTy.Contents (Elt Ideal) arg12.view.ty)
    (hv : ∀ r l, v160 (ix2 (n0 := 8) (n1 := 128) r l) = BitVec.ofNat 32 r.val) (n : ℕ) (hn : n ≤ k0_t4_loop.trips) :
    ∀ p ∈ pb_k0_t4 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 v160 X_arg10 X_arg12 n, ∀ x,
      p.2 x = dgammaG (arg12.view.read (Elt Ideal) X_arg12) (arg10.view.read (Elt Ideal) X_arg10) (p.1.emb x) := by
  induction n with
  | zero => intro p hp; exact absurd hp List.not_mem_nil
  | succ n ih =>
    intro p hp
    rw [pb_k0_t4_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 v160 X_arg10 X_arg12 ⟨n, hn⟩, List.mem_append] at hp
    exact hp.elim (trip_dgamma 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h2 v160 X_arg10 X_arg12 hv ⟨n, hn⟩ p) (ih (by omega) p)

/-- The row index of the last loop as a word. -/
theorem rowIota8_apply (r : Fin 8) (l : Fin 128) : iota .tc S8x128 32 [0] iota_S8x128_d0_w32 (ix2 (n0 := 8) (n1 := 128) r l) = BitVec.ofNat 32 r.val := by
  pointwise []

end Cert.KernelIdeal.Val

end
-- ==== Proof.LoopDx.lean ====
module

public import proofs.«01_k».proof.Proof.Gen.KernelIdeal.Loops
public import Idealize.ShloMosaic.Lib.Pointwise
public import Idealize.ShloMosaic.Lib.Pipeline.Value
public import Idealize.ShloMosaic.Lib.Pipeline.ValueKit.Geometry
public import Idealize.ShloMosaic.Lib.Pipeline.FrameBody

@[expose] public section

set_option maxRecDepth 16384

noncomputable section

namespace Cert.KernelIdeal.Val

open Idealize.ShloMosaic Idealize.ShloMosaic.TcCoe Idealize.ShloMosaic.Tactic
open Cert.KernelIdeal Cert.KernelIdeal.Gen

/-- The gradient of the input at one element of a block of 128 tokens: `d γ a - y g b`, where `γ` and `g` are rows of 128
    lanes, `a` depends on the token and `b` on the token and the block of 128 columns. -/
def dxG (x2 : S1x128x18432.Idx → EReal) (x4 : S1x128x18432.Idx → EReal) (x7 x10 : S144x128.Idx → EReal)
    (x16 : S128x128.Idx → EReal) (x17 : S18x128x8.Idx → EReal) (y : S1x128x18432.Idx) : EReal :=
  x4 y * x7 (ix2 (n0 := 144) (n1 := 128) ⟨(y 2).val / 128, by have := (y 2).isLt; simp at this; omega⟩ ⟨(y 2).val % 128, by omega⟩)
      * x16 (ix2 (n0 := 128) (n1 := 128) (y 1) ⟨(y 2).val % 128, by omega⟩)
    - x2 y * x10 (ix2 (n0 := 144) (n1 := 128) ⟨(y 2).val / 128, by have := (y 2).isLt; simp at this; omega⟩ ⟨(y 2).val % 128, by omega⟩)
      * x17 (ix3 (n0 := 18) (n1 := 128) (n2 := 8) ⟨(y 2).val / 1024, by have := (y 2).isLt; simp at this; omega⟩ (y 1)
          ⟨(y 2).val / 128 % 8, by omega⟩)

/-- One stored block of 128 columns holds `dxG`. -/
theorem dx_block (x2 : S1x128x18432.Idx → EReal) (x4 : S1x128x18432.Idx → EReal) (x7 x10 : S144x128.Idx → EReal)
    (x16 : S128x128.Idx → EReal) (x17 : S18x128x8.Idx → EReal) (k n : ℕ) (hk : k < 18) (hn : n < 8)
    (o9 : Fin 2 → ℕ) (o10 o17 : Fin 3 → ℕ) (e9 : o9 = ![8 * k + n, 0]) (e10 : o10 = ![0, 0, 1024 * k + 128 * n]) (e17 : o17 = ![k, 0, n])
    (h9 : ∀ a, o9 a + S1x128.size a ≤ S144x128.size a) (h10 : ∀ a, o10 a + S1x128x128.size a ≤ S1x128x18432.size a)
    (h16 : ∀ a, (![0, 0] : Fin 2 → ℕ) a + S128x128.size a ≤ S128x128.size a)
    (h17 : ∀ a, o17 a + S1x128x1.size a ≤ S18x128x8.size a) (x : S1x128x128.Idx) :
    k0_pay39 (F := Ideal) (View.ld (Val := Elt Ideal) (e' := .f32) x7 (Rect.unit (s := S144x128) o9 S1x128.size h9))
      (View.ld (Val := Elt Ideal) (e' := .f32) x10 (Rect.unit (s := S144x128) o9 S1x128.size h9))
      (View.ld (Val := Elt Ideal) (e' := .fp8e5m2) x4 (Rect.unit (s := S1x128x18432) o10 S1x128x128.size h10))
      (View.ld (Val := Elt Ideal) (e' := .f32) x16 (Rect.unit (s := S128x128) ![0, 0] S128x128.size h16))
      (View.ld (Val := Elt Ideal) (e' := .fp8e4m3) x2 (Rect.unit (s := S1x128x18432) o10 S1x128x128.size h10))
      (View.ld (Val := Elt Ideal) (e' := .f32) x17 (Rect.unit (s := S18x128x8) o17 S1x128x1.size h17)) x
      = dxG x2 x4 x7 x10 x16 x17 ((Rect.unit (s := S1x128x18432) o10 S1x128x128.size h10).emb x) := by
  subst e9 e10 e17
  have e : (Rect.unit (s := S1x128x18432) ![0, 0, 1024 * k + 128 * n] S1x128x128.size h10).emb x
      = ix3 (n0 := 1) (n1 := 128) (n2 := 18432) 0 (x 1) ⟨1024 * k + 128 * n + (x 2).val, by have := (x 2).isLt; simp at this; omega⟩ := by
    funext a; apply Fin.ext
    refine (ValueKit.rect_emb_unit_val _ _ _ _ _).trans ?_
    match a with
    | ⟨0, _⟩ => have := (x 0).isLt; simp at this ⊢
    | ⟨1, _⟩ => simp
    | ⟨2, _⟩ => simp
  rw [e]
  have h2 := (x 2).isLt
  simp at h2
  unfold dxG
  pointwise [k0_pay39]
  have e1 : (1024 * k + 128 * n + (x 2).val) / 128 = 8 * k + n := by omega
  have e2 : (1024 * k + 128 * n + (x 2).val) % 128 = (x 2).val := by omega
  have e3 : (1024 * k + 128 * n + (x 2).val) / 1024 = k := by omega
  have e4 : (8 * k + n) % 8 = n := by omega
  simp [e1, e2, e3, e4]

variable (𝒱 : Variants) (c : Dev nD) (bd : Option 𝒱.V) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole)

/-- Every block that a trip of the output loop stores holds `dxG`. -/
theorem trip_dx (X_arg2 : BufTy.Contents (Elt Ideal) arg2.view.ty) (X_arg4 : BufTy.Contents (Elt Ideal) arg4.view.ty) (X_arg7 : BufTy.Contents (Elt Ideal) arg7.view.ty) (X_arg10 : BufTy.Contents (Elt Ideal) arg10.view.ty) (X_arg16 : BufTy.Contents (Elt Ideal) arg16.view.ty) (X_arg17 : BufTy.Contents (Elt Ideal) arg17.view.ty) (k : Fin k0_t3_loop.trips) :
    ∀ p ∈ tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg4 X_arg7 X_arg10 X_arg16 X_arg17 k, ∀ x,
      p.2 x = dxG (arg2.view.read (Elt Ideal) X_arg2) (arg4.view.read (Elt Ideal) X_arg4) (arg7.view.read (Elt Ideal) X_arg7)
        (arg10.view.read (Elt Ideal) X_arg10) (arg16.view.read (Elt Ideal) X_arg16) (arg17.view.read (Elt Ideal) X_arg17) (p.1.emb x) := by
  have hk : k.val < 18 := k.isLt
  unfold tripL_k0_t3 trip_k0_t3
  dsimp only
  simp only [List.forall_mem_cons]
  exact ⟨fun x => dx_block _ _ _ _ _ _ k.val 7 hk (by omega) _ _ _ (k0_off9_eq k ⟨7, by decide⟩) (k0_off10_eq k ⟨7, by decide⟩) (k0_off18_eq k) _ _ _ _ x,
    fun x => dx_block _ _ _ _ _ _ k.val 6 hk (by omega) _ _ _ (k0_off9_eq k ⟨6, by decide⟩) (k0_off10_eq k ⟨6, by decide⟩) (k0_off17_eq k) _ _ _ _ x,
    fun x => dx_block _ _ _ _ _ _ k.val 5 hk (by omega) _ _ _ (k0_off9_eq k ⟨5, by decide⟩) (k0_off10_eq k ⟨5, by decide⟩) (k0_off16_eq k) _ _ _ _ x,
    fun x => dx_block _ _ _ _ _ _ k.val 4 hk (by omega) _ _ _ (k0_off9_eq k ⟨4, by decide⟩) (k0_off10_eq k ⟨4, by decide⟩) (k0_off15_eq k) _ _ _ _ x,
    fun x => dx_block _ _ _ _ _ _ k.val 3 hk (by omega) _ _ _ (k0_off9_eq k ⟨3, by decide⟩) (k0_off10_eq k ⟨3, by decide⟩) (k0_off14_eq k) _ _ _ _ x,
    fun x => dx_block _ _ _ _ _ _ k.val 2 hk (by omega) _ _ _ (k0_off9_eq k ⟨2, by decide⟩) (k0_off10_eq k ⟨2, by decide⟩) (k0_off13_eq k) _ _ _ _ x,
    fun x => dx_block _ _ _ _ _ _ k.val 1 hk (by omega) _ _ _ (k0_off9_eq k ⟨1, by decide⟩) (k0_off10_eq k ⟨1, by decide⟩) (k0_off12_eq k) _ _ _ _ x,
    fun x => dx_block _ _ _ _ _ _ k.val 0 hk (by omega) _ _ _ (k0_off9_eq k ⟨0, by decide⟩) (k0_off10_eq k ⟨0, by decide⟩) (k0_off11_eq k) _ _ _ _ x, fun p hp => absurd hp List.not_mem_nil⟩

/-- Every block that the trips before `n` of the output loop store holds `dxG`. -/
theorem pieces_dx (X_arg2 : BufTy.Contents (Elt Ideal) arg2.view.ty) (X_arg4 : BufTy.Contents (Elt Ideal) arg4.view.ty) (X_arg7 : BufTy.Contents (Elt Ideal) arg7.view.ty) (X_arg10 : BufTy.Contents (Elt Ideal) arg10.view.ty) (X_arg16 : BufTy.Contents (Elt Ideal) arg16.view.ty) (X_arg17 : BufTy.Contents (Elt Ideal) arg17.view.ty) (n : ℕ) (hn : n ≤ k0_t3_loop.trips) :
    ∀ p ∈ pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg4 X_arg7 X_arg10 X_arg16 X_arg17 n, ∀ x,
      p.2 x = dxG (arg2.view.read (Elt Ideal) X_arg2) (arg4.view.read (Elt Ideal) X_arg4) (arg7.view.read (Elt Ideal) X_arg7)
        (arg10.view.read (Elt Ideal) X_arg10) (arg16.view.read (Elt Ideal) X_arg16) (arg17.view.read (Elt Ideal) X_arg17) (p.1.emb x) := by
  induction n with
  | zero => intro p hp; exact absurd hp List.not_mem_nil
  | succ n ih =>
    intro p hp
    rw [pb_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg4 X_arg7 X_arg10 X_arg16 X_arg17 ⟨n, hn⟩, List.mem_append] at hp
    exact hp.elim (trip_dx 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X_arg2 X_arg4 X_arg7 X_arg10 X_arg16 X_arg17 ⟨n, hn⟩ p) (ih (by omega) p)

end Cert.KernelIdeal.Val

end
-- ==== Proof.LoopLr.lean ====
module

public import proofs.«01_k».proof.Proof.Gen.KernelIdeal.Loops
public import proofs.«01_k».proof.Proof.Pieces

@[expose] public section

set_option maxRecDepth 16384

noncomputable section

namespace Cert.KernelIdeal.Val

open Idealize.ShloMosaic Idealize.ShloMosaic.TcCoe Idealize.ShloMosaic.Tactic
open Cert.KernelIdeal Cert.KernelIdeal.Gen

/-- The eight rows of ratios of one chunk, whose first row that is not zero is `n`. -/
def lrSel (n : BitVec 32) (v178 : IVec S8x256 32) (v203 : IVec S8x256 32) (v209 : Vec Ideal S1x128 .f32) (v213 : Vec Ideal S1x128 .f32) (v217 : Vec Ideal S1x128 .f32) (v221 : Vec Ideal S1x128 .f32) : FVec Ideal S8x256 .f32 :=
  have v210 : FVec Ideal S1x128 .f32 := shapeCast S1x128 v209 shapeCasts_S1x128_S1x128
  have v214 : FVec Ideal S1x128 .f32 := mulf v210 v213
  have v218 : FVec Ideal S1x128 .f32 := shapeCast S1x128 v217 shapeCasts_S1x128_S1x128
  have v222 : FVec Ideal S1x128 .f32 := mulf v218 v221
  have v223 : FVec Ideal S1x256 .f32 := concatenate S1x256 1 [⟨S1x128, v214⟩, ⟨S1x128, v222⟩] concatenates_S1x128_S1x128_S1x256_d1
  have v224 : FVec Ideal S1x256 .f32 := shapeCast S1x256 v223 shapeCasts_S1x256_S1x256
  have v225 : FVec Ideal S8x256 .f32 := broadcastTo S8x256 v224 broadcasts_S1x256_S8x256
  have v226 : IVec S8x256 32 := broadcast S8x256 n
  have v227 : IVec S8x256 32 := addi v226 v203
  have v228 : IVec S8x256 1 := cmpi .eq v178 v227
  have cst_105 : Ideal .f32 := Scalar.ofBits .f32 0x00000000#32
  have v229 : FVec Ideal S8x256 .f32 := broadcast S8x256 cst_105
  have v230 : FVec Ideal S8x256 .f32 := select v228 v225 v229
  v230

/-- The eight rows in three parts below each other, and eight rows of zeros. -/
def lrStack (v230 : FVec Ideal S8x256 .f32) : FVec Ideal S32x256 .bf16 :=
  have v231 : FVec Ideal S8x256 .bf16 := truncf .bf16 v230 bitsLt_bf16_f32
  have v232 : FVec Ideal S8x256 .f32 := extf .f32 v231 bitsLt_bf16_f32
  have v233 : FVec Ideal S8x256 .f32 := subf v230 v232
  have v234 : FVec Ideal S8x256 .bf16 := truncf .bf16 v233 bitsLt_bf16_f32
  have v235 : FVec Ideal S8x256 .f32 := extf .f32 v234 bitsLt_bf16_f32
  have v236 : FVec Ideal S8x256 .f32 := subf v233 v235
  have v237 : FVec Ideal S8x256 .bf16 := truncf .bf16 v236 bitsLt_bf16_f32
  have v238 : FVec Ideal S8x256 .f32 := extf .f32 v231 bitsLt_bf16_f32
  have v239 : FVec Ideal S8x256 .f32 := extf .f32 v234 bitsLt_bf16_f32
  have v240 : FVec Ideal S8x256 .f32 := extf .f32 v237 bitsLt_bf16_f32
  have cst_106 : Ideal .f32 := Scalar.ofBits .f32 0x00000000#32
  have v241 : FVec Ideal S8x256 .f32 := broadcast S8x256 cst_106
  have v242 : FVec Ideal S32x256 .f32 := concatenate S32x256 0 [⟨S8x256, v238⟩, ⟨S8x256, v239⟩, ⟨S8x256, v240⟩, ⟨S8x256, v241⟩] concatenates_S8x256_S8x256_S8x256_S8x256_S32x256_d0
  have v243 : FVec Ideal S32x256 .bf16 := truncf .bf16 v242 bitsLt_bf16_f32
  v243

/-- The ratio rows: in chunk `q`, row `r`, lane `l`, the ratio of column `256 q + l` where `r` is that column's block of 128 within its
    group of 1024, and zero elsewhere. -/
def lrG (x7 x10 : S144x128.Idx → EReal) (y : S72x32x256.Idx) : EReal :=
  if (y 1).val = 2 * ((y 0).val % 4) + (y 2).val / 128 then
    x7 (ix2 (n0 := 144) (n1 := 128) ⟨2 * (y 0).val + (y 2).val / 128, by
        have := (y 0).isLt; have := (y 2).isLt; simp at *; omega⟩ ⟨(y 2).val % 128, by omega⟩)
      * x10 (ix2 (n0 := 144) (n1 := 128) ⟨2 * (y 0).val + (y 2).val / 128, by
        have := (y 0).isLt; have := (y 2).isLt; simp at *; omega⟩ ⟨(y 2).val % 128, by omega⟩)
  else 0

/-- A select on the comparison of a small number with a sum of two is an `if` on the numbers. -/
theorem select_eq_sum (a b c : ℕ) (ha : a < 4096) (hb : b < 4096) (hc : c < 4096) (u v : EReal) :
    Scalar.select (IntOp.cmpi .eq (BitVec.ofNat 32 a) (IntOp.addi (BitVec.ofNat 32 b) (BitVec.ofNat 32 c))) u v
      = if a = b + c then u else v := by
  have h : (BitVec.ofNat 32 a = IntOp.addi (BitVec.ofNat 32 b) (BitVec.ofNat 32 c)) ↔ a = b + c := by
    unfold IntOp.addi
    rw [← BitVec.toNat_inj]
    simp only [BitVec.toNat_add, BitVec.toNat_ofNat]
    omega
  unfold Scalar.select IntOp.cmpi
  by_cases hab : a = b + c
  · rw [if_pos hab]; simp [h.2 hab]
  · rw [if_neg hab]; rw [beq_eq_false_iff_ne.2 (mt h.1 hab)]; rfl

/-- A real number minus itself. -/
theorem real_sub_self {v : EReal} (h : ∃ a : ℝ, v = (a : EReal)) : v - v = 0 := by
  obtain ⟨a, rfl⟩ := h
  rw [← EReal.coe_sub, sub_self, EReal.coe_zero]

/-- Stacking rows of real numbers: the rows themselves on top, zeros below, as the second and third parts of an exact number are zero. -/
theorem lrStack_apply (V : FVec Ideal S8x256 .f32) (hV : ∀ y, ∃ a : ℝ, V y = (a : EReal)) (r : Fin 32) (l : Fin 256) :
    lrStack V (ix2 (n0 := 32) (n1 := 256) r l) = if h : r.val < 8 then V (ix2 (n0 := 8) (n1 := 256) ⟨r.val, h⟩ l) else 0 := by
  pointwise [lrStack]
  split
  · rfl
  · split
    · exact real_sub_self (hV _)
    · split
      · rw [real_sub_self (hV _)]; simp
      · rfl

/-- The rows of ratios, at an index. -/
theorem lrSel_apply (x7 x10 : S144x128.Idx → EReal) (v178 v203 : IVec S8x256 32)
    (h178 : ∀ r l, v178 (ix2 (n0 := 8) (n1 := 256) r l) = BitVec.ofNat 32 r.val)
    (h203 : ∀ r l, v203 (ix2 (n0 := 8) (n1 := 256) r l) = BitVec.ofNat 32 (l.val / 128))
    (k n : ℕ) (hk : k < 18) (hn : n < 4)
    (ha : ∀ a, (![8 * k + 2 * n + 0, 0] : Fin 2 → ℕ) a + S1x128.size a ≤ S144x128.size a)
    (hb : ∀ a, (![8 * k + 2 * n + 1, 0] : Fin 2 → ℕ) a + S1x128.size a ≤ S144x128.size a) (r : Fin 8) (l : Fin 256) :
    lrSel (BitVec.ofNat 32 (2 * n)) v178 v203
      (View.ld (Val := Elt Ideal) (e' := .f32) x7 (Rect.unit (s := S144x128) ![8 * k + 2 * n + 0, 0] S1x128.size ha))
      (View.ld (Val := Elt Ideal) (e' := .f32) x10 (Rect.unit (s := S144x128) ![8 * k + 2 * n + 0, 0] S1x128.size ha))
      (View.ld (Val := Elt Ideal) (e' := .f32) x7 (Rect.unit (s := S144x128) ![8 * k + 2 * n + 1, 0] S1x128.size hb))
      (View.ld (Val := Elt Ideal) (e' := .f32) x10 (Rect.unit (s := S144x128) ![8 * k + 2 * n + 1, 0] S1x128.size hb))
      (ix2 (n0 := 8) (n1 := 256) r l)
      = if r.val = 2 * n + l.val / 128 then
          x7 (ix2 (n0 := 144) (n1 := 128) ⟨2 * (4 * k + n) + l.val / 128, by omega⟩ ⟨l.val % 128, by omega⟩)
            * x10 (ix2 (n0 := 144) (n1 := 128) ⟨2 * (4 * k + n) + l.val / 128, by omega⟩ ⟨l.val % 128, by omega⟩)
        else 0 := by
  pointwise [lrSel, h178, h203]
  rw [select_eq_sum _ _ _ (by omega) (by omega) (by omega)]
  split
  · by_cases c2 : l.val < 128
    · rw [dif_pos c2]
      have e5 : 2 * (4 * k + n) + l.val / 128 = 8 * k + 2 * n := by omega
      have e6 : l.val % 128 = l.val := by omega
      simp only [e5, e6]
    · rw [dif_neg c2]
      have e5 : 2 * (4 * k + n) + l.val / 128 = 8 * k + 2 * n + 1 := by omega
      have e6 : l.val % 128 = l.val - 128 := by omega
      simp only [e5, e6]
  · rfl

/-- The stored chunk of ratio rows, at an index. -/
theorem lr_block (x7 x10 : S144x128.Idx → EReal) (hr : ∀ y, ∃ a : ℝ, x7 y * x10 y = (a : EReal)) (v178 v203 : IVec S8x256 32)
    (h178 : ∀ r l, v178 (ix2 (n0 := 8) (n1 := 256) r l) = BitVec.ofNat 32 r.val)
    (h203 : ∀ r l, v203 (ix2 (n0 := 8) (n1 := 256) r l) = BitVec.ofNat 32 (l.val / 128))
    (k n : ℕ) (hk : k < 18) (hn : n < 4) (oa ob : Fin 2 → ℕ) (o2 : Fin 3 → ℕ)
    (ea : oa = ![8 * k + 2 * n + 0, 0]) (eb : ob = ![8 * k + 2 * n + 1, 0]) (e2 : o2 = ![4 * k + n, 0, 0])
    (ha : ∀ a, oa a + S1x128.size a ≤ S144x128.size a) (hb : ∀ a, ob a + S1x128.size a ≤ S144x128.size a)
    (h2 : ∀ a, o2 a + S1x32x256.size a ≤ S72x32x256.size a) (x : S1x32x256.Idx) :
    k0_pay8 (F := Ideal) (lrStack (lrSel (BitVec.ofNat 32 (2 * n)) v178 v203
      (View.ld (Val := Elt Ideal) (e' := .f32) x7 (Rect.unit (s := S144x128) oa S1x128.size ha))
      (View.ld (Val := Elt Ideal) (e' := .f32) x10 (Rect.unit (s := S144x128) oa S1x128.size ha))
      (View.ld (Val := Elt Ideal) (e' := .f32) x7 (Rect.unit (s := S144x128) ob S1x128.size hb))
      (View.ld (Val := Elt Ideal) (e' := .f32) x10 (Rect.unit (s := S144x128) ob S1x128.size hb)))) x
      = lrG x7 x10 ((Rect.unit (s := S72x32x256) o2 S1x32x256.size h2).emb x) := by
  subst ea eb e2
  have h1 := (x 1).isLt
  have h2' := (x 2).isLt
  simp at h1 h2'
  have e : (Rect.unit (s := S72x32x256) ![4 * k + n, 0, 0] S1x32x256.size h2).emb x
      = ix3 (n0 := 72) (n1 := 32) (n2 := 256) ⟨4 * k + n, by omega⟩ (x 1) (x 2) := by
    funext a; apply Fin.ext
    refine (ValueKit.rect_emb_unit_val _ _ _ _ _).trans ?_
    match a with
    | ⟨0, _⟩ => have := (x 0).isLt; simp at this ⊢
    | ⟨1, _⟩ => simp
    | ⟨2, _⟩ => simp
  rw [e]
  have e4 : (4 * k + n) % 4 = n := by omega
  have hsel := lrSel_apply x7 x10 v178 v203 h178 h203 k n hk hn ha hb
  have hx : ∀ V, k0_pay8 (F := Ideal) (lrStack V) x = lrStack V (ix2 (n0 := 32) (n1 := 256) (x 1) (x 2)) := by
    intro V
    pointwise [k0_pay8]
  refine (hx _).trans ((lrStack_apply _ (fun y => ?_) (x 1) (x 2)).trans ?_)
  · obtain ⟨r, l, rfl⟩ : ∃ (r : Fin 8) (l : Fin 256), y = ix2 (n0 := 8) (n1 := 256) r l := ⟨y 0, y 1, eq_ix2 y⟩
    rw [hsel]
    split
    · exact hr _
    · exact ⟨0, rfl⟩
  unfold lrG
  split
  · next c1 =>
    refine (hsel _ _).trans ?_
    simp [e4]
  · next c1 =>
    rw [if_neg]
    simp [e4]
    simp at c1
    omega

end Cert.KernelIdeal.Val

end
-- ==== Proof.LoopLrTrips.lean ====
module

public import proofs.«01_k».proof.Proof.LoopLr

@[expose] public section

set_option maxRecDepth 16384

noncomputable section

namespace Cert.KernelIdeal.Val

open Idealize.ShloMosaic Idealize.ShloMosaic.TcCoe Idealize.ShloMosaic.Tactic
open Cert.KernelIdeal Cert.KernelIdeal.Gen

variable (𝒱 : Variants) (c : Dev nD) (bd : Option 𝒱.V) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole)

/-- The four blocks that a trip of the first loop stores are the ratio rows. -/
theorem trip_lr (k0_h1 : k0_cond1 i = 1#1) (v178 v181 : IVec S8x256 32) (v195 v199 : IVec S8x256 1) (X_arg7 : BufTy.Contents (Elt Ideal) arg7.view.ty) (X_arg10 : BufTy.Contents (Elt Ideal) arg10.view.ty)
    (h178 : ∀ r l, v178 (ix2 (n0 := 8) (n1 := 256) r l) = BitVec.ofNat 32 r.val)
    (h203 : ∀ r l, k0_pay53 v181 v195 v199 (ix2 (n0 := 8) (n1 := 256) r l) = BitVec.ofNat 32 (l.val / 128))
    (hr : ∀ y, ∃ a : ℝ, arg7.view.read (Elt Ideal) X_arg7 y * arg10.view.read (Elt Ideal) X_arg10 y = (a : EReal)) (k : Fin k0_t1_loop.trips) :
    ∀ p ∈ tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v178 v181 v195 v199 X_arg7 X_arg10 k, ∀ x,
      p.2 x = lrG (arg7.view.read (Elt Ideal) X_arg7) (arg10.view.read (Elt Ideal) X_arg10) (p.1.emb x) := by
  have hk : k.val < 18 := k.isLt
  unfold tripL_k0_t1 trip_k0_t1
  dsimp only
  simp only [List.forall_mem_cons]
  exact ⟨fun x => lr_block _ _ hr _ _ h178 h203 k.val 3 hk (by omega) _ _ _ (k0_off1_eq k ⟨3, by decide⟩ ⟨0, by decide⟩) (k0_off1_eq k ⟨3, by decide⟩ ⟨1, by decide⟩) (k0_off2_eq k ⟨3, by decide⟩) _ _ _ x,
    fun x => lr_block _ _ hr _ _ h178 h203 k.val 2 hk (by omega) _ _ _ (k0_off1_eq k ⟨2, by decide⟩ ⟨0, by decide⟩) (k0_off1_eq k ⟨2, by decide⟩ ⟨1, by decide⟩) (k0_off2_eq k ⟨2, by decide⟩) _ _ _ x,
    fun x => lr_block _ _ hr _ _ h178 h203 k.val 1 hk (by omega) _ _ _ (k0_off1_eq k ⟨1, by decide⟩ ⟨0, by decide⟩) (k0_off1_eq k ⟨1, by decide⟩ ⟨1, by decide⟩) (k0_off2_eq k ⟨1, by decide⟩) _ _ _ x,
    fun x => lr_block _ _ hr _ _ h178 h203 k.val 0 hk (by omega) _ _ _ (k0_off1_eq k ⟨0, by decide⟩ ⟨0, by decide⟩) (k0_off1_eq k ⟨0, by decide⟩ ⟨1, by decide⟩) (k0_off2_eq k ⟨0, by decide⟩) _ _ _ x, fun p hp => absurd hp List.not_mem_nil⟩

/-- Every block that the trips before `n` of the first loop store holds the ratio rows. -/
theorem pieces_lr (k0_h1 : k0_cond1 i = 1#1) (v178 v181 : IVec S8x256 32) (v195 v199 : IVec S8x256 1) (X_arg7 : BufTy.Contents (Elt Ideal) arg7.view.ty) (X_arg10 : BufTy.Contents (Elt Ideal) arg10.view.ty)
    (h178 : ∀ r l, v178 (ix2 (n0 := 8) (n1 := 256) r l) = BitVec.ofNat 32 r.val)
    (h203 : ∀ r l, k0_pay53 v181 v195 v199 (ix2 (n0 := 8) (n1 := 256) r l) = BitVec.ofNat 32 (l.val / 128))
    (hr : ∀ y, ∃ a : ℝ, arg7.view.read (Elt Ideal) X_arg7 y * arg10.view.read (Elt Ideal) X_arg10 y = (a : EReal)) (n : ℕ) (hn : n ≤ k0_t1_loop.trips) :
    ∀ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v178 v181 v195 v199 X_arg7 X_arg10 n, ∀ x,
      p.2 x = lrG (arg7.view.read (Elt Ideal) X_arg7) (arg10.view.read (Elt Ideal) X_arg10) (p.1.emb x) := by
  induction n with
  | zero => intro p hp; exact absurd hp List.not_mem_nil
  | succ n ih =>
    intro p hp
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v178 v181 v195 v199 X_arg7 X_arg10 ⟨n, hn⟩, List.mem_append] at hp
    exact hp.elim (trip_lr 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v178 v181 v195 v199 X_arg7 X_arg10 h178 h203 hr ⟨n, hn⟩ p) (ih (by omega) p)

/-- The row index as a word. -/
theorem rowIota_apply (r : Fin 8) (l : Fin 256) : iota .tc S8x256 32 [0] iota_S8x256_d0_w32 (ix2 (n0 := 8) (n1 := 256) r l) = BitVec.ofNat 32 r.val := by
  pointwise []

/-- The lane block as a word. -/
theorem laneBlock_apply (r : Fin 8) (l : Fin 256) :
    k0_pay53 k0_pay23 k0_pay24 k0_pay25 (ix2 (n0 := 8) (n1 := 256) r l) = BitVec.ofNat 32 (l.val / 128) := by
  pointwise [k0_pay53, k0_pay23, k0_pay24, k0_pay25]
  revert l
  decide +kernel

end Cert.KernelIdeal.Val

end
-- ==== Proof.Model.lean ====
module

public import proofs.«01_k».proof.Proof.LoopT2
public import proofs.«01_k».proof.Proof.LoopT4
public import proofs.«01_k».proof.Proof.LoopDx
public import proofs.«01_k».proof.Proof.LoopLrTrips
public import proofs.«01_k».proof.Proof.Pieces

@[expose] public section

set_option maxRecDepth 16384

noncomputable section

namespace Cert.KernelIdeal.Val

open Idealize.ShloMosaic Idealize.ShloMosaic.TcCoe Idealize.ShloMosaic.Tactic
open Cert.KernelIdeal Cert.KernelIdeal.Gen

/-- The entries of a row-scale array that belong to grid point `i`. -/
def rowV (i : grid0.Coords) (x : S2x1024.Idx → EReal) (s : Fin 128) : EReal :=
  x (ix2 (n0 := 2) (n1 := 1024) (i 0) ⟨128 * (i 1).val + s.val, by have h : (i 1).val < 8 := (i 1).isLt; omega⟩)

/-- The per-block scales, transposed. -/
def stV (x1 : S1x128x144.Idx → EReal) (q : Fin 144) (s : Fin 128) : EReal := x1 (ix3 (n0 := 1) (n1 := 128) (n2 := 144) 0 s q)

/-- The inverse of the clamped gain, at an entry. -/
def igV (g : EReal) : EReal :=
  Ideal.div 1 (if 0 ≤ g then max g (Ideal.ofBits .f32 0x3C23D70A#32) else min g (Ideal.ofBits .f32 0xBC23D70A#32))

theorem pay55_apply (i : grid0.Coords) (x : S2x1024.Idx → EReal) (h : ∀ a, k0_off3 i a + S2x128.size a ≤ S2x1024.size a) (s : Fin 128) :
    k0_pay55 (F := Ideal) i (View.ld (Val := Elt Ideal) (e' := .f32) x (Rect.unit (s := S2x1024) (k0_off3 i) S2x128.size h)) (ix2 (n0 := 1) (n1 := 128) 0 s)
      = rowV i x s := by
  have e := k0_off3_eq i
  generalize k0_off3 i = o at h e
  subst e
  unfold rowV
  have h0 : (i 0).val < 2 := (i 0).isLt
  have h1 : (i 1).val < 8 := (i 1).isLt
  pointwise [k0_pay55]
  refine (Fin.sum_univ_two _).trans ?_
  clear h0
  generalize i 0 = b
  change Fin 2 at b
  fin_cases b <;> simp [Scalar.select, IntOp.cmpi]

theorem pay60_apply (i : grid0.Coords) (v : Vec Ideal S2x128 .f32) (x1 : S1x128x144.Idx → EReal) (h : ∀ a, (![0, 0, 0] : Fin 3 → ℕ) a + S1x128x144.size a ≤ S1x128x144.size a)
    (d : Fin 128 → EReal) (hd : ∀ s, k0_pay55 (F := Ideal) i v (ix2 (n0 := 1) (n1 := 128) 0 s) = d s) (k : Fin 18) (r : Fin 8) (s : Fin 128) :
    k0_pay60 (F := Ideal) (k0_pay59 i v (View.ld (Val := Elt Ideal) (e' := .f32) x1 (Rect.unit (s := S1x128x144) ![0, 0, 0] S1x128x144.size h)))
        (ix3 (n0 := 18) (n1 := 16) (n2 := 128) k ⟨r.val, by omega⟩ s)
      = stV x1 ⟨8 * k.val + r.val, by omega⟩ s * d s := by
  unfold stV
  pointwise [k0_pay60, k0_pay59, k0_pay57, hd]
  simp only [Nat.mul_comm k.val 8]

theorem pay62_apply (a b : FVec Ideal S1x128 .f32) (c : Vec Ideal S8x128 .f32) (w : Vec Ideal S144x128 .f32) (q : Fin 144) (s : Fin 128) :
    k0_pay62 (F := Ideal) a b c w (ix2 (n0 := 144) (n1 := 128) q s)
      = w (ix2 (n0 := 144) (n1 := 128) q s) * (b (ix2 (n0 := 1) (n1 := 128) 0 s) * ((∑ r : Fin 8, c (ix2 (n0 := 8) (n1 := 128) r s))
          * a (ix2 (n0 := 1) (n1 := 128) 0 s) * ((1 / 18432 : ℝ) : EReal))) := by
  pointwise [k0_pay62]
  rw [IdealRules.named_const.ideal_named_scalar _ _ _ _ rfl]

theorem pay58_apply (x1 : S1x128x144.Idx → EReal) (h : ∀ a, (![0, 0, 0] : Fin 3 → ℕ) a + S1x128x144.size a ≤ S1x128x144.size a) (q : Fin 144) (s : Fin 128) :
    k0_pay58 (F := Ideal) (View.ld (Val := Elt Ideal) (e' := .f32) x1 (Rect.unit (s := S1x128x144) ![0, 0, 0] S1x128x144.size h)) (ix2 (n0 := 144) (n1 := 128) q s)
      = stV x1 q s := by
  unfold stV
  pointwise [k0_pay58, k0_pay57]

theorem pay4_apply (a b : FVec Ideal S1x128 .f32) (s l : Fin 128) :
    k0_pay4 (F := Ideal) a b (ix2 (n0 := 128) (n1 := 128) s l) = b (ix2 (n0 := 1) (n1 := 128) 0 s) * a (ix2 (n0 := 1) (n1 := 128) 0 s) := by
  pointwise [k0_pay4]

theorem pay61_apply (r : Fin 8) (s : Fin 128) : k0_pay61 (F := Ideal) (ix2 (n0 := 8) (n1 := 128) r s) = 0 := by
  pointwise [k0_pay61]

theorem pay22_apply (x : S72x8x256.Idx) : k0_pay22 (F := Ideal) x = 0 := by
  pointwise [k0_pay22]

theorem pay21_apply (x5 : S144x128.Idx → EReal) (h : ∀ a, (![0, 0] : Fin 2 → ℕ) a + S144x128.size a ≤ S144x128.size a) (x : S144x128.Idx) :
    k0_pay21 (F := Ideal) (View.ld (Val := Elt Ideal) (e' := .f32) x5 (Rect.unit (s := S144x128) ![0, 0] S144x128.size h)) x = igV (x5 x) := by
  unfold igV
  pointwise [k0_pay21]

/-- The stored form of the row sums: entry `(g, s, j)` is entry `(8g + j, s)`. -/
def btG (v : S144x128.Idx → EReal) (y : S18x128x8.Idx) : EReal :=
  v (ix2 (n0 := 144) (n1 := 128) ⟨8 * (y 0).val + (y 2).val, by have := (y 0).isLt; have := (y 2).isLt; simp at *; omega⟩ (y 1))

theorem bt_block (v : FVec Ideal S144x128 .f32) (g : ℕ) (hg : g < 18) (o : Fin 3 → ℕ) (eo : o = ![g, 0, 0]) (o2 : Fin 2 → ℕ) (e2 : o2 = ![8 * g, 0])
    (ho : ∀ a, o a + S1x128x8.size a ≤ S18x128x8.size a) (hs : S144x128.Slices o2 S8x128) (x : S1x128x8.Idx) :
    shapeCast S1x128x8 (transpose S128x8 [1, 0] (extractStridedSlice S8x128 o2 v hs) transposes_S8x128_p1_0_S128x8) shapeCasts_S128x8_S1x128x8 x
      = btG v ((Rect.unit (s := S18x128x8) o S1x128x8.size ho).emb x) := by
  subst eo e2
  have h0 := (x 0).isLt
  have h1 := (x 1).isLt
  have h2 := (x 2).isLt
  simp at h0 h1 h2
  have e : (Rect.unit (s := S18x128x8) ![g, 0, 0] S1x128x8.size ho).emb x
      = ix3 (n0 := 18) (n1 := 128) (n2 := 8) ⟨g, hg⟩ (x 1) (x 2) := by
    funext a; apply Fin.ext
    refine (ValueKit.rect_emb_unit_val _ _ _ _ _).trans ?_
    match a with
    | ⟨0, _⟩ => simp
    | ⟨1, _⟩ => simp
    | ⟨2, _⟩ => simp
  rw [e]
  unfold btG
  pointwise []

/-- The inner product of a row's codes against the scaled gain ratio. -/
def cV (x0 x2 : S1x128x18432.Idx → EReal) (x1 : S1x128x144.Idx → EReal) (lr : S72x32x256.Idx → EReal) (s : Fin 128) : EReal :=
  ∑ r : Fin 8, cAcc x0 x2 lr (fun y => stV x1 (y 0) (y 1)) (fun _ => 0) 18 (ix2 (n0 := 8) (n1 := 128) r s)

/-- The factor of the normalised value in the gradient of the input, per block of columns. -/
def btV (i : grid0.Coords) (x0 x2 : S1x128x18432.Idx → EReal) (x1 : S1x128x144.Idx → EReal) (x3 x4 : S2x1024.Idx → EReal)
    (lr : S72x32x256.Idx → EReal) (y : S144x128.Idx) : EReal :=
  stV x1 (y 0) (y 1) * (rowV i x4 (y 1) * (cV x0 x2 x1 lr (y 1) * rowV i x3 (y 1) * ((1 / 18432 : ℝ) : EReal)))

/-- One grid point's block of the gradient of the input. -/
def dxV (i : grid0.Coords) (x0 x2 : S1x128x18432.Idx → EReal) (x1 : S1x128x144.Idx → EReal) (x3 x4 : S2x1024.Idx → EReal)
    (x5 ig : S144x128.Idx → EReal) (lr : S72x32x256.Idx → EReal) : S1x128x18432.Idx → EReal :=
  dxG x0 x2 x5 ig (fun y => rowV i x4 (y 0) * rowV i x3 (y 0)) (btG (btV i x0 x2 x1 x3 x4 lr))

/-- One grid point's step of the sums for the gradient of the gain. -/
def dgV (i : grid0.Coords) (x0 x2 : S1x128x18432.Idx → EReal) (x1 : S1x128x144.Idx → EReal) (x3 : S2x1024.Idx → EReal)
    (prev : S72x8x256.Idx → EReal) (y : S72x8x256.Idx) : EReal :=
  prev y + ∑ s : Fin 128, (stV x1 ⟨8 * ((y 0).val / 4) + (y 1).val, by have := (y 0).isLt; have := (y 1).isLt; simp at *; omega⟩ s * rowV i x3 s)
    * codeProd x0 x2 (y 0) s (y 2)

end Cert.KernelIdeal.Val

end
-- ==== Proof.RunValA.lean ====
module

public import proofs.«01_k».proof.Proof.Model
public import proofs.«01_k».proof.Proof.KernelIdealFrame
public import Idealize.ShloMosaic.Lib.VecWindow

@[expose] public section

set_option maxRecDepth 16384

noncomputable section

namespace Cert.KernelIdeal.Val

open Idealize.ShloMosaic Idealize.ShloMosaic.TcCoe Idealize.ShloMosaic.Tactic
open Cert.KernelIdeal Cert.KernelIdeal.Gen

set_option maxHeartbeats 1000000

variable (𝒱 : Variants) (c : Dev nD) (bd : Option 𝒱.V) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole)

theorem v18_A (x3 : Vec Ideal S2x1024 .f32) (s : Fin 128) : kernelRun0_A.sl.r (F := Ideal) c i arg5 harg5 x3 (ix2 (n0 := 1) (n1 := 128) 0 s) = rowV i x3 s := by
  unfold kernelRun0_A.sl.r
  rw [View.readAt_eq_ld, harg5.read_unread]
  exact pay55_apply i x3 _ s

theorem v29_A (x4 : Vec Ideal S2x1024 .f32) (s : Fin 128) : kernelRun0_A.sl.r_1 (F := Ideal) c i arg6 harg6 x4 (ix2 (n0 := 1) (n1 := 128) 0 s) = rowV i x4 s := by
  unfold kernelRun0_A.sl.r_1
  rw [View.readAt_eq_ld, harg6.read_unread]
  exact pay55_apply i x4 _ s

theorem rd13_A (x1 : Vec Ideal S1x128x144 .f32) (f : arg13.view.ty.Contents (Elt Ideal)) :
    arg13.view.read (Elt Ideal) (arg13.view.writes (Elt Ideal) f (kernelRun0_A.sl.HS3_1 (F := Ideal) c arg3 harg3 x1)) = fun y => stV x1 (y 0) (y 1) := by
  unfold kernelRun0_A.sl.HS3_1
  refine (View.read_writes_full arg13.view f _ _ _).trans ?_
  funext y
  rw [View.readAt_eq_ld, harg3.read_unread, eq_ix2 y]
  exact pay58_apply x1 _ _ _

theorem rd14_A (x1 : Vec Ideal S1x128x144 .f32) (x3 : Vec Ideal S2x1024 .f32) (f : arg14.view.ty.Contents (Elt Ideal)) (k : Fin 18) (r : Fin 8) (s : Fin 128) :
    arg14.view.read (Elt Ideal) (arg14.view.writes (Elt Ideal) f (kernelRun0_A.sl.HS4_1 (F := Ideal) c i arg3 harg3 arg5 harg5 x1 x3))
        (ix3 (n0 := 18) (n1 := 16) (n2 := 128) k ⟨r.val, by omega⟩ s)
      = stV x1 ⟨8 * k.val + r.val, by omega⟩ s * rowV i x3 s := by
  unfold kernelRun0_A.sl.HS4_1
  refine (congrFun (View.read_writes_full arg14.view f _ _ _) _).trans ?_
  unfold kernelRun0_A.sl.r_2
  rw [View.readAt_eq_ld, harg5.read_unread, View.readAt_eq_ld, harg3.read_unread]
  exact pay60_apply i _ x1 _ _ (fun s => pay55_apply i x3 _ s) k r s

theorem rd15_A (f : arg15.view.ty.Contents (Elt Ideal)) :
    arg15.view.read (Elt Ideal) (arg15.view.writes (Elt Ideal) f (kernelRun0_A.sl.HS5_1 (F := Ideal))) = fun _ => 0 := by
  unfold kernelRun0_A.sl.HS5_1
  refine (View.read_writes_full arg15.view f _ _ _).trans ?_
  funext y
  rw [eq_ix2 y]
  exact pay61_apply _ _

theorem rd16_A (x3 x4 : Vec Ideal S2x1024 .f32) (f : arg16.view.ty.Contents (Elt Ideal)) :
    arg16.view.read (Elt Ideal) (arg16.view.writes (Elt Ideal) f (kernelRun0_A.sl.HS6_1 (F := Ideal) c i arg5 harg5 arg6 harg6 x3 x4))
      = fun y => rowV i x4 (y 0) * rowV i x3 (y 0) := by
  unfold kernelRun0_A.sl.HS6_1
  refine (View.read_writes_full arg16.view f _ _ _).trans ?_
  funext y
  rw [eq_ix2 y]
  refine (pay4_apply _ _ _ _).trans ?_
  exact congrArg₂ (· * ·) (v29_A c i arg6 harg6 x4 _) (v18_A c i arg5 harg5 x3 _)

theorem rd10_A (x5 : Vec Ideal S144x128 .f32) (f : arg10.view.ty.Contents (Elt Ideal)) :
    arg10.view.read (Elt Ideal) (arg10.view.writes (Elt Ideal) f (kernelRun0_A.sl.HS0_1 (F := Ideal) c arg7 harg7 x5)) = fun y => igV (x5 y) := by
  unfold kernelRun0_A.sl.HS0_1 kernelRun0_A.sl.v173
  refine (View.read_writes_full arg10.view f _ _ _).trans ?_
  funext y
  change k0_pay21 (F := Ideal) (arg7.view.readAt (Elt Ideal) (Rect.unit (s := S144x128) ![0, 0] S144x128.size inb_S144x128_S144x128_0_0).toLoadRect (harg7.unread x5)) y = _
  rw [View.readAt_eq_ld, harg7.read_unread]
  exact pay21_apply x5 _ y

theorem rd12_A (f : arg12.view.ty.Contents (Elt Ideal)) :
    arg12.view.read (Elt Ideal) (arg12.view.writes (Elt Ideal) f (kernelRun0_A.sl.HS2_1 (F := Ideal))) = fun _ => 0 := by
  unfold kernelRun0_A.sl.HS2_1
  refine (View.read_writes_full arg12.view f _ _ _).trans ?_
  funext y
  exact pay22_apply y

/-- Every block that the first point stores into the ratio rows holds them. -/
theorem LS1_A (hc0 : cond0_0 i) (hc1 : ¬cond0_1 i) (x0 : Vec Ideal S1x128x18432 .fp8e4m3) (x1 : Vec Ideal S1x128x144 .f32) (x2 : Vec Ideal S1x128x18432 .fp8e5m2) (x3 x4 : Vec Ideal S2x1024 .f32) (x5 : Vec Ideal S144x128 .f32)
    (hr : ∀ y, ∃ a : ℝ, x5 y * igV (x5 y) = (a : EReal)) :
    ∀ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.2.1, ∀ x, p.2 x = lrG x5 (fun y => igV (x5 y)) (p.1.emb x) := by
  intro p hp x
  have hr' : ∀ y, ∃ a : ℝ, arg7.view.read (Elt Ideal) (harg7.unread x5) y
      * arg10.view.read (Elt Ideal) (arg10.view.writes (Elt Ideal) arg10.view.junk (kernelRun0_A.sl.HS0_1 (F := Ideal) c arg7 harg7 x5)) y = (a : EReal) := by
    intro y
    rw [harg7.read_unread, rd10_A]
    exact hr y
  refine (pieces_lr Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 _ _ _ _ _ _ rowIota_apply laneBlock_apply hr' _ le_rfl p hp x).trans ?_
  rw [harg7.read_unread, rd10_A]

/-- What the ratio rows read after the first point. -/
theorem read11_A (hc0 : cond0_0 i) (hc1 : ¬cond0_1 i) (x0 : Vec Ideal S1x128x18432 .fp8e4m3) (x1 : Vec Ideal S1x128x144 .f32) (x2 : Vec Ideal S1x128x18432 .fp8e5m2) (x3 x4 : Vec Ideal S2x1024 .f32) (x5 : Vec Ideal S144x128 .f32)
    (hr : ∀ y, ∃ a : ℝ, x5 y * igV (x5 y) = (a : EReal)) (f : arg11.view.ty.Contents (Elt Ideal)) :
    arg11.view.read (Elt Ideal) (arg11.view.writes (Elt Ideal) f (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5).2.2.2.1) = lrG x5 (fun y => igV (x5 y)) := by
  funext y
  exact View.read_writes_apply_of_pieces arg11.view f _ _ (LS1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 hr) y (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 y)

/-- The inner product that a point's loop leaves. -/
theorem v50_A (hc0 : cond0_0 i) (hc1 : ¬cond0_1 i) (x0 : Vec Ideal S1x128x18432 .fp8e4m3) (x1 : Vec Ideal S1x128x144 .f32) (x2 : Vec Ideal S1x128x18432 .fp8e5m2) (x3 x4 : Vec Ideal S2x1024 .f32) (x5 : Vec Ideal S144x128 .f32)
    (hr : ∀ y, ∃ a : ℝ, x5 y * igV (x5 y) = (a : EReal)) :
    kernelRun0_A.sl.v50 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5
      = cAcc x0 x2 (lrG x5 (fun y => igV (x5 y))) (fun y => stV x1 (y 0) (y 1)) (fun _ => 0) 18 := by
  unfold kernelRun0_A.sl.v50
  refine (View.readAt_full _ _ _).trans ?_
  rw [Tools.writes_append]
  refine (read_c Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ le_rfl).trans ?_
  rw [harg2.read_unread, harg4.read_unread, rd13_A, rd15_A]
  exact congrArg (fun z => cAcc x0 x2 z (fun y => stV x1 (y 0) (y 1)) (fun _ => 0) 18) (read11_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 hr arg11.view.junk)

/-- The block factors that a point computes from its loop's sums. -/
theorem v59_A (hc0 : cond0_0 i) (hc1 : ¬cond0_1 i) (x0 : Vec Ideal S1x128x18432 .fp8e4m3) (x1 : Vec Ideal S1x128x144 .f32) (x2 : Vec Ideal S1x128x18432 .fp8e5m2) (x3 x4 : Vec Ideal S2x1024 .f32) (x5 : Vec Ideal S144x128 .f32)
    (hr : ∀ y, ∃ a : ℝ, x5 y * igV (x5 y) = (a : EReal)) :
    k0_pay62 (F := Ideal) (kernelRun0_A.sl.r c i arg5 harg5 x3) (kernelRun0_A.sl.r_1 c i arg6 harg6 x4) (kernelRun0_A.sl.v50 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5) (kernelRun0_A.sl.v56 c arg3 harg3 arg13 x1)
      = btV i x0 x2 x1 x3 x4 (lrG x5 (fun y => igV (x5 y))) := by
  funext y
  rw [eq_ix2 y]
  refine (pay62_apply _ _ _ _ _ _).trans ?_
  have e56 : kernelRun0_A.sl.v56 (F := Ideal) c arg3 harg3 arg13 x1 = fun y => stV x1 (y 0) (y 1) := by
    unfold kernelRun0_A.sl.v56
    exact (View.readAt_full _ _ _).trans (rd13_A c arg3 harg3 arg13 x1 _)
  rw [e56, (v50_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 hr)]
  unfold btV cV
  exact congrArg₂ (· * ·) rfl (congrArg₂ (· * ·) (v29_A c i arg6 harg6 x4 _) (congrArg (· * _) (congrArg (_ * ·) (v18_A c i arg5 harg5 x3 _))))

/-- Every block that a point stores of its factors holds them. -/
theorem LS17_A (hc0 : cond0_0 i) (hc1 : ¬cond0_1 i) (x0 : Vec Ideal S1x128x18432 .fp8e4m3) (x1 : Vec Ideal S1x128x144 .f32) (x2 : Vec Ideal S1x128x18432 .fp8e5m2) (x3 x4 : Vec Ideal S2x1024 .f32) (x5 : Vec Ideal S144x128 .f32)
    (hr : ∀ y, ∃ a : ℝ, x5 y * igV (x5 y) = (a : EReal)) :
    ∀ p ∈ kernelRun0_A.sl.HS7_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5, ∀ x, p.2 x = btG (btV i x0 x2 x1 x3 x4 (lrG x5 (fun y => igV (x5 y)))) (p.1.emb x) := by
  rw [← v59_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 hr]
  unfold kernelRun0_A.sl.HS7_18
  intro p hp
  simp only [List.mem_cons, List.not_mem_nil, or_false] at hp
  rcases hp with rfl | rfl | rfl | rfl | rfl | rfl | rfl | rfl | rfl | rfl | rfl | rfl | rfl | rfl | rfl | rfl | rfl | rfl <;> intro x
  · exact bt_block (k0_pay62 _ _ _ _) 17 (by omega) ![17, 0, 0] rfl ![136, 0] rfl inb_S18x128x8_S1x128x8_17_0_0 slices_S144x128_o136_0_S8x128 x
  · exact bt_block (k0_pay62 _ _ _ _) 16 (by omega) ![16, 0, 0] rfl ![128, 0] rfl inb_S18x128x8_S1x128x8_16_0_0 slices_S144x128_o128_0_S8x128 x
  · exact bt_block (k0_pay62 _ _ _ _) 15 (by omega) ![15, 0, 0] rfl ![120, 0] rfl inb_S18x128x8_S1x128x8_15_0_0 slices_S144x128_o120_0_S8x128 x
  · exact bt_block (k0_pay62 _ _ _ _) 14 (by omega) ![14, 0, 0] rfl ![112, 0] rfl inb_S18x128x8_S1x128x8_14_0_0 slices_S144x128_o112_0_S8x128 x
  · exact bt_block (k0_pay62 _ _ _ _) 13 (by omega) ![13, 0, 0] rfl ![104, 0] rfl inb_S18x128x8_S1x128x8_13_0_0 slices_S144x128_o104_0_S8x128 x
  · exact bt_block (k0_pay62 _ _ _ _) 12 (by omega) ![12, 0, 0] rfl ![96, 0] rfl inb_S18x128x8_S1x128x8_12_0_0 slices_S144x128_o96_0_S8x128 x
  · exact bt_block (k0_pay62 _ _ _ _) 11 (by omega) ![11, 0, 0] rfl ![88, 0] rfl inb_S18x128x8_S1x128x8_11_0_0 slices_S144x128_o88_0_S8x128 x
  · exact bt_block (k0_pay62 _ _ _ _) 10 (by omega) ![10, 0, 0] rfl ![80, 0] rfl inb_S18x128x8_S1x128x8_10_0_0 slices_S144x128_o80_0_S8x128 x
  · exact bt_block (k0_pay62 _ _ _ _) 9 (by omega) ![9, 0, 0] rfl ![72, 0] rfl inb_S18x128x8_S1x128x8_9_0_0 slices_S144x128_o72_0_S8x128 x
  · exact bt_block (k0_pay62 _ _ _ _) 8 (by omega) ![8, 0, 0] rfl ![64, 0] rfl inb_S18x128x8_S1x128x8_8_0_0 slices_S144x128_o64_0_S8x128 x
  · exact bt_block (k0_pay62 _ _ _ _) 7 (by omega) ![7, 0, 0] rfl ![56, 0] rfl inb_S18x128x8_S1x128x8_7_0_0 slices_S144x128_o56_0_S8x128 x
  · exact bt_block (k0_pay62 _ _ _ _) 6 (by omega) ![6, 0, 0] rfl ![48, 0] rfl inb_S18x128x8_S1x128x8_6_0_0 slices_S144x128_o48_0_S8x128 x
  · exact bt_block (k0_pay62 _ _ _ _) 5 (by omega) ![5, 0, 0] rfl ![40, 0] rfl inb_S18x128x8_S1x128x8_5_0_0 slices_S144x128_o40_0_S8x128 x
  · exact bt_block (k0_pay62 _ _ _ _) 4 (by omega) ![4, 0, 0] rfl ![32, 0] rfl inb_S18x128x8_S1x128x8_4_0_0 slices_S144x128_o32_0_S8x128 x
  · exact bt_block (k0_pay62 _ _ _ _) 3 (by omega) ![3, 0, 0] rfl ![24, 0] rfl inb_S18x128x8_S1x128x8_3_0_0 slices_S144x128_o24_0_S8x128 x
  · exact bt_block (k0_pay62 _ _ _ _) 2 (by omega) ![2, 0, 0] rfl ![16, 0] rfl inb_S18x128x8_S1x128x8_2_0_0 slices_S144x128_o16_0_S8x128 x
  · exact bt_block (k0_pay62 _ _ _ _) 1 (by omega) ![1, 0, 0] rfl ![8, 0] rfl inb_S18x128x8_S1x128x8_1_0_0 slices_S144x128_o8_0_S8x128 x
  · exact bt_block (k0_pay62 _ _ _ _) 0 (by omega) ![0, 0, 0] rfl ![0, 0] rfl inb_S18x128x8_S1x128x8_0_0_0 slices_S144x128_o0_0_S8x128 x

/-- What the factors read when the second loop runs. -/
theorem rd17_A (hc0 : cond0_0 i) (hc1 : ¬cond0_1 i) (x0 : Vec Ideal S1x128x18432 .fp8e4m3) (x1 : Vec Ideal S1x128x144 .f32) (x2 : Vec Ideal S1x128x18432 .fp8e5m2) (x3 x4 : Vec Ideal S2x1024 .f32) (x5 : Vec Ideal S144x128 .f32)
    (hr : ∀ y, ∃ a : ℝ, x5 y * igV (x5 y) = (a : EReal)) (f : arg17.view.ty.Contents (Elt Ideal)) :
    arg17.view.read (Elt Ideal) (arg17.view.writes (Elt Ideal) f (kernelRun0_A.sl.HS7_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5)) = btG (btV i x0 x2 x1 x3 x4 (lrG x5 (fun y => igV (x5 y)))) := by
  funext y
  exact View.read_writes_apply_of_pieces arg17.view f _ _ (LS17_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 hr) y (View.cover_of_tiledL (s := S18x128x8) _ S1x128x8.size (by sl_kernel_rfl) y)

theorem out6_A (hc0 : cond0_0 i) (hc1 : ¬cond0_1 i) (x0 : Vec Ideal S1x128x18432 .fp8e4m3) (x1 : Vec Ideal S1x128x144 .f32) (x2 : Vec Ideal S1x128x18432 .fp8e5m2) (x3 x4 : Vec Ideal S2x1024 .f32) (x5 : Vec Ideal S144x128 .f32)
    (hr : ∀ y, ∃ a : ℝ, x5 y * igV (x5 y) = (a : EReal)) :
    out0_A_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 = dxV i x0 x2 x1 x3 x4 x5 (fun y => igV (x5 y)) (lrG x5 (fun y => igV (x5 y))) := by
  unfold out0_A_6
  funext y
  refine View.read_writes_apply_of_pieces VO0_6 _ _ _ ?_ y (cover0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 y)
  intro p hp x
  refine (pieces_dx Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ le_rfl p hp x).trans ?_
  rw [harg2.read_unread, harg4.read_unread, harg7.read_unread, rd10_A, rd16_A]
  generalize p.1.emb x = y'
  unfold dxV
  exact congrArg (fun z => dxG x0 x2 x5 (fun y => igV (x5 y)) _ z y') (rd17_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 hr _)

theorem sout0_A (hc0 : cond0_0 i) (hc1 : ¬cond0_1 i) (x0 : Vec Ideal S1x128x18432 .fp8e4m3) (x1 : Vec Ideal S1x128x144 .f32) (x2 : Vec Ideal S1x128x18432 .fp8e5m2) (x3 x4 : Vec Ideal S2x1024 .f32) (x5 : Vec Ideal S144x128 .f32)
    (hr : ∀ y, ∃ a : ℝ, x5 y * igV (x5 y) = (a : EReal)) :
    sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 = fun y => igV (x5 y) := by
  unfold sout0_A_0
  refine (View.read_writes_of_cover VS0_0 VS0_0.junk arg10.view arg10.view.junk _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5)).trans ?_
  exact rd10_A c arg7 harg7 arg10 x5 _

theorem sout1_A (hc0 : cond0_0 i) (hc1 : ¬cond0_1 i) (x0 : Vec Ideal S1x128x18432 .fp8e4m3) (x1 : Vec Ideal S1x128x144 .f32) (x2 : Vec Ideal S1x128x18432 .fp8e5m2) (x3 x4 : Vec Ideal S2x1024 .f32) (x5 : Vec Ideal S144x128 .f32)
    (hr : ∀ y, ∃ a : ℝ, x5 y * igV (x5 y) = (a : EReal)) :
    sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 = lrG x5 (fun y => igV (x5 y)) := by
  unfold sout0_A_1
  refine (View.read_writes_of_cover VS0_1 VS0_1.junk arg11.view arg11.view.junk _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5)).trans ?_
  exact read11_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 hr _

theorem sout2_A (hc0 : cond0_0 i) (hc1 : ¬cond0_1 i) (x0 : Vec Ideal S1x128x18432 .fp8e4m3) (x1 : Vec Ideal S1x128x144 .f32) (x2 : Vec Ideal S1x128x18432 .fp8e5m2) (x3 x4 : Vec Ideal S2x1024 .f32) (x5 : Vec Ideal S144x128 .f32)
    (hr : ∀ y, ∃ a : ℝ, x5 y * igV (x5 y) = (a : EReal)) :
    sout0_A_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 = dgV i x0 x2 x1 x3 (fun _ => 0) := by
  unfold sout0_A_2
  refine (View.read_writes_of_cover VS0_2 VS0_2.junk arg12.view arg12.view.junk _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5)).trans ?_
  funext y
  refine (congrFun (congrArg (arg12.view.read (Elt Ideal)) (Tools.writes_append arg12.view arg12.view.junk _ _)) y).trans ?_
  refine (read_dg Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ le_rfl y).trans ?_
  have hy : (y 0).val / 4 < k0_t2_loop.trips := by have h : (y 0).val < 72 := (y 0).isLt; show _ < 18; omega
  rw [if_pos hy, harg2.read_unread, harg4.read_unread, rd12_A]
  unfold dgStep dgV
  refine congrArg₂ _ rfl (Finset.sum_congr rfl fun s _ => congrArg (· * _) ?_)
  have h1 : (y 1).val < 8 := (y 1).isLt
  exact rd14_A c i arg3 harg3 arg5 harg5 arg14 x1 x3 _ ⟨(y 0).val / 4, hy⟩ ⟨(y 1).val, h1⟩ s

end Cert.KernelIdeal.Val

end
-- ==== Proof.RunValB.lean ====
module

public import proofs.«01_k».proof.Proof.Model
public import proofs.«01_k».proof.Proof.KernelIdealFrame
public import Idealize.ShloMosaic.Lib.VecWindow

@[expose] public section

set_option maxRecDepth 16384

noncomputable section

namespace Cert.KernelIdeal.Val

open Idealize.ShloMosaic Idealize.ShloMosaic.TcCoe Idealize.ShloMosaic.Tactic
open Cert.KernelIdeal Cert.KernelIdeal.Gen

set_option maxHeartbeats 1000000

variable (𝒱 : Variants) (c : Dev nD) (bd : Option 𝒱.V) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole)

theorem v18_B (x3 : Vec Ideal S2x1024 .f32) (s : Fin 128) : kernelRun0_B.sl.r (F := Ideal) c i arg5 harg5 x3 (ix2 (n0 := 1) (n1 := 128) 0 s) = rowV i x3 s := by
  unfold kernelRun0_B.sl.r
  rw [View.readAt_eq_ld, harg5.read_unread]
  exact pay55_apply i x3 _ s

theorem v29_B (x4 : Vec Ideal S2x1024 .f32) (s : Fin 128) : kernelRun0_B.sl.r_1 (F := Ideal) c i arg6 harg6 x4 (ix2 (n0 := 1) (n1 := 128) 0 s) = rowV i x4 s := by
  unfold kernelRun0_B.sl.r_1
  rw [View.readAt_eq_ld, harg6.read_unread]
  exact pay55_apply i x4 _ s

theorem rd13_B (x1 : Vec Ideal S1x128x144 .f32) (f : arg13.view.ty.Contents (Elt Ideal)) :
    arg13.view.read (Elt Ideal) (arg13.view.writes (Elt Ideal) f (kernelRun0_B.sl.HS3_1 (F := Ideal) c arg3 harg3 x1)) = fun y => stV x1 (y 0) (y 1) := by
  unfold kernelRun0_B.sl.HS3_1
  refine (View.read_writes_full arg13.view f _ _ _).trans ?_
  funext y
  rw [View.readAt_eq_ld, harg3.read_unread, eq_ix2 y]
  exact pay58_apply x1 _ _ _

theorem rd14_B (x1 : Vec Ideal S1x128x144 .f32) (x3 : Vec Ideal S2x1024 .f32) (f : arg14.view.ty.Contents (Elt Ideal)) (k : Fin 18) (r : Fin 8) (s : Fin 128) :
    arg14.view.read (Elt Ideal) (arg14.view.writes (Elt Ideal) f (kernelRun0_B.sl.HS4_1 (F := Ideal) c i arg3 harg3 arg5 harg5 x1 x3))
        (ix3 (n0 := 18) (n1 := 16) (n2 := 128) k ⟨r.val, by omega⟩ s)
      = stV x1 ⟨8 * k.val + r.val, by omega⟩ s * rowV i x3 s := by
  unfold kernelRun0_B.sl.HS4_1
  refine (congrFun (View.read_writes_full arg14.view f _ _ _) _).trans ?_
  unfold kernelRun0_B.sl.r_2
  rw [View.readAt_eq_ld, harg5.read_unread, View.readAt_eq_ld, harg3.read_unread]
  exact pay60_apply i _ x1 _ _ (fun s => pay55_apply i x3 _ s) k r s

theorem rd15_B (f : arg15.view.ty.Contents (Elt Ideal)) :
    arg15.view.read (Elt Ideal) (arg15.view.writes (Elt Ideal) f (kernelRun0_B.sl.HS5_1 (F := Ideal))) = fun _ => 0 := by
  unfold kernelRun0_B.sl.HS5_1
  refine (View.read_writes_full arg15.view f _ _ _).trans ?_
  funext y
  rw [eq_ix2 y]
  exact pay61_apply _ _

theorem rd16_B (x3 x4 : Vec Ideal S2x1024 .f32) (f : arg16.view.ty.Contents (Elt Ideal)) :
    arg16.view.read (Elt Ideal) (arg16.view.writes (Elt Ideal) f (kernelRun0_B.sl.HS6_1 (F := Ideal) c i arg5 harg5 arg6 harg6 x3 x4))
      = fun y => rowV i x4 (y 0) * rowV i x3 (y 0) := by
  unfold kernelRun0_B.sl.HS6_1
  refine (View.read_writes_full arg16.view f _ _ _).trans ?_
  funext y
  rw [eq_ix2 y]
  refine (pay4_apply _ _ _ _).trans ?_
  exact congrArg₂ (· * ·) (v29_B c i arg6 harg6 x4 _) (v18_B c i arg5 harg5 x3 _)

/-- The inner product that a point's loop leaves. -/
theorem v50_B (hc0 : ¬cond0_0 i) (hc1 : ¬cond0_1 i) (x0 : Vec Ideal S1x128x18432 .fp8e4m3) (x1 : Vec Ideal S1x128x144 .f32) (x2 : Vec Ideal S1x128x18432 .fp8e5m2) (x3 x4 : Vec Ideal S2x1024 .f32) (x5 : Vec Ideal S144x128 .f32) (xs0 : Vec Ideal S144x128 .f32) (xs1 : Vec Ideal S72x32x256 .bf16) (xs2 : Vec Ideal S72x8x256 .f32) :
    kernelRun0_B.sl.v50 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 xs1 xs2
      = cAcc x0 x2 xs1 (fun y => stV x1 (y 0) (y 1)) (fun _ => 0) 18 := by
  unfold kernelRun0_B.sl.v50
  refine (View.readAt_full _ _ _).trans ?_
  rw [Tools.writes_append]
  refine (read_c Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ le_rfl).trans ?_
  rw [harg2.read_unread, harg4.read_unread, harg11.read_unread, rd13_B, rd15_B]
  rfl

/-- The block factors that a point computes from its loop's sums. -/
theorem v59_B (hc0 : ¬cond0_0 i) (hc1 : ¬cond0_1 i) (x0 : Vec Ideal S1x128x18432 .fp8e4m3) (x1 : Vec Ideal S1x128x144 .f32) (x2 : Vec Ideal S1x128x18432 .fp8e5m2) (x3 x4 : Vec Ideal S2x1024 .f32) (x5 : Vec Ideal S144x128 .f32) (xs0 : Vec Ideal S144x128 .f32) (xs1 : Vec Ideal S72x32x256 .bf16) (xs2 : Vec Ideal S72x8x256 .f32) :
    k0_pay62 (F := Ideal) (kernelRun0_B.sl.r c i arg5 harg5 x3) (kernelRun0_B.sl.r_1 c i arg6 harg6 x4) (kernelRun0_B.sl.v50 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 xs1 xs2) (kernelRun0_B.sl.v56 c arg3 harg3 arg13 x1)
      = btV i x0 x2 x1 x3 x4 xs1 := by
  funext y
  rw [eq_ix2 y]
  refine (pay62_apply _ _ _ _ _ _).trans ?_
  have e56 : kernelRun0_B.sl.v56 (F := Ideal) c arg3 harg3 arg13 x1 = fun y => stV x1 (y 0) (y 1) := by
    unfold kernelRun0_B.sl.v56
    exact (View.readAt_full _ _ _).trans (rd13_B c arg3 harg3 arg13 x1 _)
  rw [e56, (v50_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2)]
  unfold btV cV
  exact congrArg₂ (· * ·) rfl (congrArg₂ (· * ·) (v29_B c i arg6 harg6 x4 _) (congrArg (· * _) (congrArg (_ * ·) (v18_B c i arg5 harg5 x3 _))))

/-- Every block that a point stores of its factors holds them. -/
theorem LS17_B (hc0 : ¬cond0_0 i) (hc1 : ¬cond0_1 i) (x0 : Vec Ideal S1x128x18432 .fp8e4m3) (x1 : Vec Ideal S1x128x144 .f32) (x2 : Vec Ideal S1x128x18432 .fp8e5m2) (x3 x4 : Vec Ideal S2x1024 .f32) (x5 : Vec Ideal S144x128 .f32) (xs0 : Vec Ideal S144x128 .f32) (xs1 : Vec Ideal S72x32x256 .bf16) (xs2 : Vec Ideal S72x8x256 .f32) :
    ∀ p ∈ kernelRun0_B.sl.HS7_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 xs1 xs2, ∀ x, p.2 x = btG (btV i x0 x2 x1 x3 x4 xs1) (p.1.emb x) := by
  rw [← v59_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2]
  unfold kernelRun0_B.sl.HS7_18
  intro p hp
  simp only [List.mem_cons, List.not_mem_nil, or_false] at hp
  rcases hp with rfl | rfl | rfl | rfl | rfl | rfl | rfl | rfl | rfl | rfl | rfl | rfl | rfl | rfl | rfl | rfl | rfl | rfl <;> intro x
  · exact bt_block (k0_pay62 _ _ _ _) 17 (by omega) ![17, 0, 0] rfl ![136, 0] rfl inb_S18x128x8_S1x128x8_17_0_0 slices_S144x128_o136_0_S8x128 x
  · exact bt_block (k0_pay62 _ _ _ _) 16 (by omega) ![16, 0, 0] rfl ![128, 0] rfl inb_S18x128x8_S1x128x8_16_0_0 slices_S144x128_o128_0_S8x128 x
  · exact bt_block (k0_pay62 _ _ _ _) 15 (by omega) ![15, 0, 0] rfl ![120, 0] rfl inb_S18x128x8_S1x128x8_15_0_0 slices_S144x128_o120_0_S8x128 x
  · exact bt_block (k0_pay62 _ _ _ _) 14 (by omega) ![14, 0, 0] rfl ![112, 0] rfl inb_S18x128x8_S1x128x8_14_0_0 slices_S144x128_o112_0_S8x128 x
  · exact bt_block (k0_pay62 _ _ _ _) 13 (by omega) ![13, 0, 0] rfl ![104, 0] rfl inb_S18x128x8_S1x128x8_13_0_0 slices_S144x128_o104_0_S8x128 x
  · exact bt_block (k0_pay62 _ _ _ _) 12 (by omega) ![12, 0, 0] rfl ![96, 0] rfl inb_S18x128x8_S1x128x8_12_0_0 slices_S144x128_o96_0_S8x128 x
  · exact bt_block (k0_pay62 _ _ _ _) 11 (by omega) ![11, 0, 0] rfl ![88, 0] rfl inb_S18x128x8_S1x128x8_11_0_0 slices_S144x128_o88_0_S8x128 x
  · exact bt_block (k0_pay62 _ _ _ _) 10 (by omega) ![10, 0, 0] rfl ![80, 0] rfl inb_S18x128x8_S1x128x8_10_0_0 slices_S144x128_o80_0_S8x128 x
  · exact bt_block (k0_pay62 _ _ _ _) 9 (by omega) ![9, 0, 0] rfl ![72, 0] rfl inb_S18x128x8_S1x128x8_9_0_0 slices_S144x128_o72_0_S8x128 x
  · exact bt_block (k0_pay62 _ _ _ _) 8 (by omega) ![8, 0, 0] rfl ![64, 0] rfl inb_S18x128x8_S1x128x8_8_0_0 slices_S144x128_o64_0_S8x128 x
  · exact bt_block (k0_pay62 _ _ _ _) 7 (by omega) ![7, 0, 0] rfl ![56, 0] rfl inb_S18x128x8_S1x128x8_7_0_0 slices_S144x128_o56_0_S8x128 x
  · exact bt_block (k0_pay62 _ _ _ _) 6 (by omega) ![6, 0, 0] rfl ![48, 0] rfl inb_S18x128x8_S1x128x8_6_0_0 slices_S144x128_o48_0_S8x128 x
  · exact bt_block (k0_pay62 _ _ _ _) 5 (by omega) ![5, 0, 0] rfl ![40, 0] rfl inb_S18x128x8_S1x128x8_5_0_0 slices_S144x128_o40_0_S8x128 x
  · exact bt_block (k0_pay62 _ _ _ _) 4 (by omega) ![4, 0, 0] rfl ![32, 0] rfl inb_S18x128x8_S1x128x8_4_0_0 slices_S144x128_o32_0_S8x128 x
  · exact bt_block (k0_pay62 _ _ _ _) 3 (by omega) ![3, 0, 0] rfl ![24, 0] rfl inb_S18x128x8_S1x128x8_3_0_0 slices_S144x128_o24_0_S8x128 x
  · exact bt_block (k0_pay62 _ _ _ _) 2 (by omega) ![2, 0, 0] rfl ![16, 0] rfl inb_S18x128x8_S1x128x8_2_0_0 slices_S144x128_o16_0_S8x128 x
  · exact bt_block (k0_pay62 _ _ _ _) 1 (by omega) ![1, 0, 0] rfl ![8, 0] rfl inb_S18x128x8_S1x128x8_1_0_0 slices_S144x128_o8_0_S8x128 x
  · exact bt_block (k0_pay62 _ _ _ _) 0 (by omega) ![0, 0, 0] rfl ![0, 0] rfl inb_S18x128x8_S1x128x8_0_0_0 slices_S144x128_o0_0_S8x128 x

/-- What the factors read when the second loop runs. -/
theorem rd17_B (hc0 : ¬cond0_0 i) (hc1 : ¬cond0_1 i) (x0 : Vec Ideal S1x128x18432 .fp8e4m3) (x1 : Vec Ideal S1x128x144 .f32) (x2 : Vec Ideal S1x128x18432 .fp8e5m2) (x3 x4 : Vec Ideal S2x1024 .f32) (x5 : Vec Ideal S144x128 .f32) (xs0 : Vec Ideal S144x128 .f32) (xs1 : Vec Ideal S72x32x256 .bf16) (xs2 : Vec Ideal S72x8x256 .f32) (f : arg17.view.ty.Contents (Elt Ideal)) :
    arg17.view.read (Elt Ideal) (arg17.view.writes (Elt Ideal) f (kernelRun0_B.sl.HS7_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 xs1 xs2)) = btG (btV i x0 x2 x1 x3 x4 xs1) := by
  funext y
  exact View.read_writes_apply_of_pieces arg17.view f _ _ (LS17_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2) y (View.cover_of_tiledL (s := S18x128x8) _ S1x128x8.size (by sl_kernel_rfl) y)

theorem out6_B (hc0 : ¬cond0_0 i) (hc1 : ¬cond0_1 i) (x0 : Vec Ideal S1x128x18432 .fp8e4m3) (x1 : Vec Ideal S1x128x144 .f32) (x2 : Vec Ideal S1x128x18432 .fp8e5m2) (x3 x4 : Vec Ideal S2x1024 .f32) (x5 : Vec Ideal S144x128 .f32) (xs0 : Vec Ideal S144x128 .f32) (xs1 : Vec Ideal S72x32x256 .bf16) (xs2 : Vec Ideal S72x8x256 .f32) :
    out0_B_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 = dxV i x0 x2 x1 x3 x4 x5 xs0 xs1 := by
  unfold out0_B_6
  funext y
  refine View.read_writes_apply_of_pieces VO0_6 _ _ _ ?_ y (cover0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 y)
  intro p hp x
  refine (pieces_dx Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ le_rfl p hp x).trans ?_
  rw [harg2.read_unread, harg4.read_unread, harg7.read_unread, harg10.read_unread, rd16_B]
  generalize p.1.emb x = y'
  unfold dxV
  exact congrArg (fun z => dxG x0 x2 x5 xs0 _ z y') (rd17_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 _)

theorem sout2_B (hc0 : ¬cond0_0 i) (hc1 : ¬cond0_1 i) (x0 : Vec Ideal S1x128x18432 .fp8e4m3) (x1 : Vec Ideal S1x128x144 .f32) (x2 : Vec Ideal S1x128x18432 .fp8e5m2) (x3 x4 : Vec Ideal S2x1024 .f32) (x5 : Vec Ideal S144x128 .f32) (xs0 : Vec Ideal S144x128 .f32) (xs1 : Vec Ideal S72x32x256 .bf16) (xs2 : Vec Ideal S72x8x256 .f32) :
    sout0_B_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 = dgV i x0 x2 x1 x3 xs2 := by
  unfold sout0_B_2
  funext y
  refine (read_dg Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ le_rfl y).trans ?_
  have hy : (y 0).val / 4 < k0_t2_loop.trips := by have h : (y 0).val < 72 := (y 0).isLt; show _ < 18; omega
  rw [if_pos hy, harg2.read_unread, harg4.read_unread, harg12.read_unread]
  unfold dgStep dgV
  refine congrArg₂ _ rfl (Finset.sum_congr rfl fun s _ => congrArg (· * _) ?_)
  have h1 : (y 1).val < 8 := (y 1).isLt
  exact rd14_B c i arg3 harg3 arg5 harg5 arg14 x1 x3 _ ⟨(y 0).val / 4, hy⟩ ⟨(y 1).val, h1⟩ s

end Cert.KernelIdeal.Val

end
-- ==== Proof.RunValC.lean ====
module

public import proofs.«01_k».proof.Proof.Model
public import proofs.«01_k».proof.Proof.KernelIdealFrame
public import Idealize.ShloMosaic.Lib.VecWindow

@[expose] public section

set_option maxRecDepth 16384

noncomputable section

namespace Cert.KernelIdeal.Val

open Idealize.ShloMosaic Idealize.ShloMosaic.TcCoe Idealize.ShloMosaic.Tactic
open Cert.KernelIdeal Cert.KernelIdeal.Gen

set_option maxHeartbeats 1000000

variable (𝒱 : Variants) (c : Dev nD) (bd : Option 𝒱.V) (i : grid0.Coords) (arg2 : Memref sig .tc .vmem S1x128x18432 .fp8e4m3) (harg2 : arg2.IsWhole) (arg3 : Memref sig .tc .vmem S1x128x144 .f32) (harg3 : arg3.IsWhole) (arg4 : Memref sig .tc .vmem S1x128x18432 .fp8e5m2) (harg4 : arg4.IsWhole) (arg5 : Memref sig .tc .vmem S2x1024 .f32) (harg5 : arg5.IsWhole) (arg6 : Memref sig .tc .vmem S2x1024 .f32) (harg6 : arg6.IsWhole) (arg7 : Memref sig .tc .vmem S144x128 .f32) (harg7 : arg7.IsWhole) (arg8 : Memref sig .tc .vmem S1x128x18432 .bf16) (harg8 : arg8.IsWhole) (arg9 : Memref sig .tc .vmem S144x128 .f32) (harg9 : arg9.IsWhole) (arg10 : Memref sig .tc .vmem S144x128 .f32) (harg10 : arg10.IsWhole) (arg11 : Memref sig .tc .vmem S72x32x256 .bf16) (harg11 : arg11.IsWhole) (arg12 : Memref sig .tc .vmem S72x8x256 .f32) (harg12 : arg12.IsWhole) (arg13 : Memref sig .tc .vmem S144x128 .f32) (harg13 : arg13.IsWhole) (arg14 : Memref sig .tc .vmem S18x16x128 .bf16) (harg14 : arg14.IsWhole) (arg15 : Memref sig .tc .vmem S8x128 .f32) (harg15 : arg15.IsWhole) (arg16 : Memref sig .tc .vmem S128x128 .f32) (harg16 : arg16.IsWhole) (arg17 : Memref sig .tc .vmem S18x128x8 .f32) (harg17 : arg17.IsWhole)

theorem v18_C (x3 : Vec Ideal S2x1024 .f32) (s : Fin 128) : kernelRun0_C.sl.r (F := Ideal) c i arg5 harg5 x3 (ix2 (n0 := 1) (n1 := 128) 0 s) = rowV i x3 s := by
  unfold kernelRun0_C.sl.r
  rw [View.readAt_eq_ld, harg5.read_unread]
  exact pay55_apply i x3 _ s

theorem v29_C (x4 : Vec Ideal S2x1024 .f32) (s : Fin 128) : kernelRun0_C.sl.r_1 (F := Ideal) c i arg6 harg6 x4 (ix2 (n0 := 1) (n1 := 128) 0 s) = rowV i x4 s := by
  unfold kernelRun0_C.sl.r_1
  rw [View.readAt_eq_ld, harg6.read_unread]
  exact pay55_apply i x4 _ s

theorem rd13_C (x1 : Vec Ideal S1x128x144 .f32) (f : arg13.view.ty.Contents (Elt Ideal)) :
    arg13.view.read (Elt Ideal) (arg13.view.writes (Elt Ideal) f (kernelRun0_C.sl.HS3_1 (F := Ideal) c arg3 harg3 x1)) = fun y => stV x1 (y 0) (y 1) := by
  unfold kernelRun0_C.sl.HS3_1
  refine (View.read_writes_full arg13.view f _ _ _).trans ?_
  funext y
  rw [View.readAt_eq_ld, harg3.read_unread, eq_ix2 y]
  exact pay58_apply x1 _ _ _

theorem rd14_C (x1 : Vec Ideal S1x128x144 .f32) (x3 : Vec Ideal S2x1024 .f32) (f : arg14.view.ty.Contents (Elt Ideal)) (k : Fin 18) (r : Fin 8) (s : Fin 128) :
    arg14.view.read (Elt Ideal) (arg14.view.writes (Elt Ideal) f (kernelRun0_C.sl.HS4_1 (F := Ideal) c i arg3 harg3 arg5 harg5 x1 x3))
        (ix3 (n0 := 18) (n1 := 16) (n2 := 128) k ⟨r.val, by omega⟩ s)
      = stV x1 ⟨8 * k.val + r.val, by omega⟩ s * rowV i x3 s := by
  unfold kernelRun0_C.sl.HS4_1
  refine (congrFun (View.read_writes_full arg14.view f _ _ _) _).trans ?_
  unfold kernelRun0_C.sl.r_2
  rw [View.readAt_eq_ld, harg5.read_unread, View.readAt_eq_ld, harg3.read_unread]
  exact pay60_apply i _ x1 _ _ (fun s => pay55_apply i x3 _ s) k r s

theorem rd15_C (f : arg15.view.ty.Contents (Elt Ideal)) :
    arg15.view.read (Elt Ideal) (arg15.view.writes (Elt Ideal) f (kernelRun0_C.sl.HS5_1 (F := Ideal))) = fun _ => 0 := by
  unfold kernelRun0_C.sl.HS5_1
  refine (View.read_writes_full arg15.view f _ _ _).trans ?_
  funext y
  rw [eq_ix2 y]
  exact pay61_apply _ _

theorem rd16_C (x3 x4 : Vec Ideal S2x1024 .f32) (f : arg16.view.ty.Contents (Elt Ideal)) :
    arg16.view.read (Elt Ideal) (arg16.view.writes (Elt Ideal) f (kernelRun0_C.sl.HS6_1 (F := Ideal) c i arg5 harg5 arg6 harg6 x3 x4))
      = fun y => rowV i x4 (y 0) * rowV i x3 (y 0) := by
  unfold kernelRun0_C.sl.HS6_1
  refine (View.read_writes_full arg16.view f _ _ _).trans ?_
  funext y
  rw [eq_ix2 y]
  refine (pay4_apply _ _ _ _).trans ?_
  exact congrArg₂ (· * ·) (v29_C c i arg6 harg6 x4 _) (v18_C c i arg5 harg5 x3 _)

/-- The inner product that a point's loop leaves. -/
theorem v50_C (hc0 : ¬cond0_0 i) (hc1 : cond0_1 i) (x0 : Vec Ideal S1x128x18432 .fp8e4m3) (x1 : Vec Ideal S1x128x144 .f32) (x2 : Vec Ideal S1x128x18432 .fp8e5m2) (x3 x4 : Vec Ideal S2x1024 .f32) (x5 : Vec Ideal S144x128 .f32) (xs0 : Vec Ideal S144x128 .f32) (xs1 : Vec Ideal S72x32x256 .bf16) (xs2 : Vec Ideal S72x8x256 .f32) :
    kernelRun0_C.sl.v50 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 xs1 xs2
      = cAcc x0 x2 xs1 (fun y => stV x1 (y 0) (y 1)) (fun _ => 0) 18 := by
  unfold kernelRun0_C.sl.v50
  refine (View.readAt_full _ _ _).trans ?_
  rw [Tools.writes_append]
  refine (read_c Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ le_rfl).trans ?_
  rw [harg2.read_unread, harg4.read_unread, harg11.read_unread, rd13_C, rd15_C]
  rfl

/-- The block factors that a point computes from its loop's sums. -/
theorem v59_C (hc0 : ¬cond0_0 i) (hc1 : cond0_1 i) (x0 : Vec Ideal S1x128x18432 .fp8e4m3) (x1 : Vec Ideal S1x128x144 .f32) (x2 : Vec Ideal S1x128x18432 .fp8e5m2) (x3 x4 : Vec Ideal S2x1024 .f32) (x5 : Vec Ideal S144x128 .f32) (xs0 : Vec Ideal S144x128 .f32) (xs1 : Vec Ideal S72x32x256 .bf16) (xs2 : Vec Ideal S72x8x256 .f32) :
    k0_pay62 (F := Ideal) (kernelRun0_C.sl.r c i arg5 harg5 x3) (kernelRun0_C.sl.r_1 c i arg6 harg6 x4) (kernelRun0_C.sl.v50 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 xs1 xs2) (kernelRun0_C.sl.v56 c arg3 harg3 arg13 x1)
      = btV i x0 x2 x1 x3 x4 xs1 := by
  funext y
  rw [eq_ix2 y]
  refine (pay62_apply _ _ _ _ _ _).trans ?_
  have e56 : kernelRun0_C.sl.v56 (F := Ideal) c arg3 harg3 arg13 x1 = fun y => stV x1 (y 0) (y 1) := by
    unfold kernelRun0_C.sl.v56
    exact (View.readAt_full _ _ _).trans (rd13_C c arg3 harg3 arg13 x1 _)
  rw [e56, (v50_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2)]
  unfold btV cV
  exact congrArg₂ (· * ·) rfl (congrArg₂ (· * ·) (v29_C c i arg6 harg6 x4 _) (congrArg (· * _) (congrArg (_ * ·) (v18_C c i arg5 harg5 x3 _))))

/-- Every block that a point stores of its factors holds them. -/
theorem LS17_C (hc0 : ¬cond0_0 i) (hc1 : cond0_1 i) (x0 : Vec Ideal S1x128x18432 .fp8e4m3) (x1 : Vec Ideal S1x128x144 .f32) (x2 : Vec Ideal S1x128x18432 .fp8e5m2) (x3 x4 : Vec Ideal S2x1024 .f32) (x5 : Vec Ideal S144x128 .f32) (xs0 : Vec Ideal S144x128 .f32) (xs1 : Vec Ideal S72x32x256 .bf16) (xs2 : Vec Ideal S72x8x256 .f32) :
    ∀ p ∈ kernelRun0_C.sl.HS7_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 xs1 xs2, ∀ x, p.2 x = btG (btV i x0 x2 x1 x3 x4 xs1) (p.1.emb x) := by
  rw [← v59_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2]
  unfold kernelRun0_C.sl.HS7_18
  intro p hp
  simp only [List.mem_cons, List.not_mem_nil, or_false] at hp
  rcases hp with rfl | rfl | rfl | rfl | rfl | rfl | rfl | rfl | rfl | rfl | rfl | rfl | rfl | rfl | rfl | rfl | rfl | rfl <;> intro x
  · exact bt_block (k0_pay62 _ _ _ _) 17 (by omega) ![17, 0, 0] rfl ![136, 0] rfl inb_S18x128x8_S1x128x8_17_0_0 slices_S144x128_o136_0_S8x128 x
  · exact bt_block (k0_pay62 _ _ _ _) 16 (by omega) ![16, 0, 0] rfl ![128, 0] rfl inb_S18x128x8_S1x128x8_16_0_0 slices_S144x128_o128_0_S8x128 x
  · exact bt_block (k0_pay62 _ _ _ _) 15 (by omega) ![15, 0, 0] rfl ![120, 0] rfl inb_S18x128x8_S1x128x8_15_0_0 slices_S144x128_o120_0_S8x128 x
  · exact bt_block (k0_pay62 _ _ _ _) 14 (by omega) ![14, 0, 0] rfl ![112, 0] rfl inb_S18x128x8_S1x128x8_14_0_0 slices_S144x128_o112_0_S8x128 x
  · exact bt_block (k0_pay62 _ _ _ _) 13 (by omega) ![13, 0, 0] rfl ![104, 0] rfl inb_S18x128x8_S1x128x8_13_0_0 slices_S144x128_o104_0_S8x128 x
  · exact bt_block (k0_pay62 _ _ _ _) 12 (by omega) ![12, 0, 0] rfl ![96, 0] rfl inb_S18x128x8_S1x128x8_12_0_0 slices_S144x128_o96_0_S8x128 x
  · exact bt_block (k0_pay62 _ _ _ _) 11 (by omega) ![11, 0, 0] rfl ![88, 0] rfl inb_S18x128x8_S1x128x8_11_0_0 slices_S144x128_o88_0_S8x128 x
  · exact bt_block (k0_pay62 _ _ _ _) 10 (by omega) ![10, 0, 0] rfl ![80, 0] rfl inb_S18x128x8_S1x128x8_10_0_0 slices_S144x128_o80_0_S8x128 x
  · exact bt_block (k0_pay62 _ _ _ _) 9 (by omega) ![9, 0, 0] rfl ![72, 0] rfl inb_S18x128x8_S1x128x8_9_0_0 slices_S144x128_o72_0_S8x128 x
  · exact bt_block (k0_pay62 _ _ _ _) 8 (by omega) ![8, 0, 0] rfl ![64, 0] rfl inb_S18x128x8_S1x128x8_8_0_0 slices_S144x128_o64_0_S8x128 x
  · exact bt_block (k0_pay62 _ _ _ _) 7 (by omega) ![7, 0, 0] rfl ![56, 0] rfl inb_S18x128x8_S1x128x8_7_0_0 slices_S144x128_o56_0_S8x128 x
  · exact bt_block (k0_pay62 _ _ _ _) 6 (by omega) ![6, 0, 0] rfl ![48, 0] rfl inb_S18x128x8_S1x128x8_6_0_0 slices_S144x128_o48_0_S8x128 x
  · exact bt_block (k0_pay62 _ _ _ _) 5 (by omega) ![5, 0, 0] rfl ![40, 0] rfl inb_S18x128x8_S1x128x8_5_0_0 slices_S144x128_o40_0_S8x128 x
  · exact bt_block (k0_pay62 _ _ _ _) 4 (by omega) ![4, 0, 0] rfl ![32, 0] rfl inb_S18x128x8_S1x128x8_4_0_0 slices_S144x128_o32_0_S8x128 x
  · exact bt_block (k0_pay62 _ _ _ _) 3 (by omega) ![3, 0, 0] rfl ![24, 0] rfl inb_S18x128x8_S1x128x8_3_0_0 slices_S144x128_o24_0_S8x128 x
  · exact bt_block (k0_pay62 _ _ _ _) 2 (by omega) ![2, 0, 0] rfl ![16, 0] rfl inb_S18x128x8_S1x128x8_2_0_0 slices_S144x128_o16_0_S8x128 x
  · exact bt_block (k0_pay62 _ _ _ _) 1 (by omega) ![1, 0, 0] rfl ![8, 0] rfl inb_S18x128x8_S1x128x8_1_0_0 slices_S144x128_o8_0_S8x128 x
  · exact bt_block (k0_pay62 _ _ _ _) 0 (by omega) ![0, 0, 0] rfl ![0, 0] rfl inb_S18x128x8_S1x128x8_0_0_0 slices_S144x128_o0_0_S8x128 x

/-- What the factors read when the second loop runs. -/
theorem rd17_C (hc0 : ¬cond0_0 i) (hc1 : cond0_1 i) (x0 : Vec Ideal S1x128x18432 .fp8e4m3) (x1 : Vec Ideal S1x128x144 .f32) (x2 : Vec Ideal S1x128x18432 .fp8e5m2) (x3 x4 : Vec Ideal S2x1024 .f32) (x5 : Vec Ideal S144x128 .f32) (xs0 : Vec Ideal S144x128 .f32) (xs1 : Vec Ideal S72x32x256 .bf16) (xs2 : Vec Ideal S72x8x256 .f32) (f : arg17.view.ty.Contents (Elt Ideal)) :
    arg17.view.read (Elt Ideal) (arg17.view.writes (Elt Ideal) f (kernelRun0_C.sl.HS7_18 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 xs1 xs2)) = btG (btV i x0 x2 x1 x3 x4 xs1) := by
  funext y
  exact View.read_writes_apply_of_pieces arg17.view f _ _ (LS17_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2) y (View.cover_of_tiledL (s := S18x128x8) _ S1x128x8.size (by sl_kernel_rfl) y)

theorem out6_C (hc0 : ¬cond0_0 i) (hc1 : cond0_1 i) (x0 : Vec Ideal S1x128x18432 .fp8e4m3) (x1 : Vec Ideal S1x128x144 .f32) (x2 : Vec Ideal S1x128x18432 .fp8e5m2) (x3 x4 : Vec Ideal S2x1024 .f32) (x5 : Vec Ideal S144x128 .f32) (xs0 : Vec Ideal S144x128 .f32) (xs1 : Vec Ideal S72x32x256 .bf16) (xs2 : Vec Ideal S72x8x256 .f32) :
    out0_C_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 = dxV i x0 x2 x1 x3 x4 x5 xs0 xs1 := by
  unfold out0_C_6
  funext y
  refine View.read_writes_apply_of_pieces VO0_6 _ _ _ ?_ y (cover0_C_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 y)
  intro p hp x
  refine (pieces_dx Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ le_rfl p hp x).trans ?_
  rw [harg2.read_unread, harg4.read_unread, harg7.read_unread, harg10.read_unread, rd16_C]
  generalize p.1.emb x = y'
  unfold dxV
  exact congrArg (fun z => dxG x0 x2 x5 xs0 _ z y') (rd17_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 _)

theorem sout2_C (hc0 : ¬cond0_0 i) (hc1 : cond0_1 i) (x0 : Vec Ideal S1x128x18432 .fp8e4m3) (x1 : Vec Ideal S1x128x144 .f32) (x2 : Vec Ideal S1x128x18432 .fp8e5m2) (x3 x4 : Vec Ideal S2x1024 .f32) (x5 : Vec Ideal S144x128 .f32) (xs0 : Vec Ideal S144x128 .f32) (xs1 : Vec Ideal S72x32x256 .bf16) (xs2 : Vec Ideal S72x8x256 .f32) :
    sout0_C_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 = dgV i x0 x2 x1 x3 xs2 := by
  unfold sout0_C_2
  funext y
  refine (read_dg Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ _ _ _ _ _ _ _ _ _ le_rfl y).trans ?_
  have hy : (y 0).val / 4 < k0_t2_loop.trips := by have h : (y 0).val < 72 := (y 0).isLt; show _ < 18; omega
  rw [if_pos hy, harg2.read_unread, harg4.read_unread, harg12.read_unread]
  unfold dgStep dgV
  refine congrArg₂ _ rfl (Finset.sum_congr rfl fun s _ => congrArg (· * _) ?_)
  have h1 : (y 1).val < 8 := (y 1).isLt
  exact rd14_C c i arg3 harg3 arg5 harg5 arg14 x1 x3 _ ⟨(y 0).val / 4, hy⟩ ⟨(y 1).val, h1⟩ s

theorem out7_C (hc0 : ¬cond0_0 i) (hc1 : cond0_1 i) (x0 : Vec Ideal S1x128x18432 .fp8e4m3) (x1 : Vec Ideal S1x128x144 .f32) (x2 : Vec Ideal S1x128x18432 .fp8e5m2) (x3 x4 : Vec Ideal S2x1024 .f32) (x5 : Vec Ideal S144x128 .f32) (xs0 : Vec Ideal S144x128 .f32) (xs1 : Vec Ideal S72x32x256 .bf16) (xs2 : Vec Ideal S72x8x256 .f32) :
    out0_C_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 = dgammaG (dgV i x0 x2 x1 x3 xs2) xs0 := by
  unfold out0_C_7
  funext y
  refine View.read_writes_apply_of_pieces VO0_7 _ _ _ ?_ y (cover0_C_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2 y)
  intro p hp x
  refine (pieces_dgamma Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc1 _ _ _ rowIota8_apply _ le_rfl p hp x).trans ?_
  rw [harg10.read_unread]
  exact congrArg (fun z => dgammaG z xs0 (p.1.emb x)) (sout2_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 xs0 xs1 xs2)

end Cert.KernelIdeal.Val

end
-- ==== Proof.GridVal.lean ====
module

public import proofs.«01_k».proof.Proof.RunValA
public import proofs.«01_k».proof.Proof.RunValB
public import proofs.«01_k».proof.Proof.RunValC

@[expose] public section

set_option maxRecDepth 16384

noncomputable section

namespace Cert.KernelIdeal.Val

open Idealize.ShloMosaic Idealize.ShloMosaic.TcCoe Idealize.ShloMosaic.Tactic Idealize.ShloMosaic.Pipeline
open Cert.KernelIdeal Cert.KernelIdeal.Gen

set_option maxHeartbeats 1000000

variable (m : (ℓ : Loc nD τ sig) → Buf (Elt Ideal) ℓ) (c : Dev nD)

/-- The gain as the grid finds it, in rows of 128. -/
def gV : S144x128.Idx → EReal := V m c main_v2

/-- The inverse of the clamped gain. -/
def igG : S144x128.Idx → EReal := fun y => igV (gV m c y)

/-- The ratio rows. -/
def lrV : S72x32x256.Idx → EReal := lrG (gV m c) (igG m c)

/-- The gain's block is the whole gain at every point. -/
theorem iblk5 (t : Fin cfg0.N) : iblk m c 5 t = gV m c := by
  have e : ∀ t : Fin cfg0.N, ∀ a, win0_5.index t a = 0 := (by decide +kernel : ∀ t : Fin grid0.N, ∀ a, win0_5.index t a = 0)
  funext y
  unfold gV
  blk_simp [iblk]
  congr 1
  funext a
  apply Fin.ext
  match a with
  | ⟨0, _⟩ => blk_simp [e]
  | ⟨1, _⟩ => blk_simp [e]

/-- The sums for the gradient of the gain after point `n`. -/
def dgAcc : (n : ℕ) → n < cfg0.N → S72x8x256.Idx → EReal
  | 0, hn => dgV (grid0.coords ⟨0, hn⟩) (iblk m c 0 ⟨0, hn⟩) (iblk m c 2 ⟨0, hn⟩) (iblk m c 1 ⟨0, hn⟩) (iblk m c 3 ⟨0, hn⟩) (fun _ => 0)
  | n + 1, hn => dgV (grid0.coords ⟨n + 1, hn⟩) (iblk m c 0 ⟨n + 1, hn⟩) (iblk m c 2 ⟨n + 1, hn⟩) (iblk m c 1 ⟨n + 1, hn⟩) (iblk m c 3 ⟨n + 1, hn⟩)
      (dgAcc n (Nat.lt_of_succ_lt hn))

/-- What every grid point leaves. -/
theorem outs_val (hr : ∀ y, ∃ a : ℝ, gV m c y * igG m c y = (a : EReal)) : ∀ (n : ℕ) (hn : n < cfg0.N),
    (outsAt0 m c n hn).1 = dxV (grid0.coords ⟨n, hn⟩) (iblk m c 0 ⟨n, hn⟩) (iblk m c 2 ⟨n, hn⟩) (iblk m c 1 ⟨n, hn⟩) (iblk m c 3 ⟨n, hn⟩) (iblk m c 4 ⟨n, hn⟩)
        (gV m c) (igG m c) (lrV m c)
      ∧ (outsAt0 m c n hn).2.2.1 = igG m c ∧ (outsAt0 m c n hn).2.2.2.1 = lrV m c ∧ (outsAt0 m c n hn).2.2.2.2 = dgAcc m c n hn
      ∧ (n = 15 → (outsAt0 m c n hn).2.1 = dgammaG (dgAcc m c n hn) (igG m c))
  | 0, hn => by
    have h0 : (0 : ℕ) % 16 = 0 := rfl
    have h1 : ¬ (0 : ℕ) % 16 = 15 := by decide
    have e := outsAt0_A m c ⟨0, hn⟩ h0 h1
    have e5 := iblk5 m c ⟨0, hn⟩
    dsimp only at e
    rw [e5] at e
    refine ⟨?_, ?_, ?_, ?_, fun h => absurd h (by decide)⟩
    · refine (congrArg (fun z => z.1) e).trans ?_; dsimp only; exact out6_A _ _ _ _ _ _ _ _ _ _ _ _ _ _ _ _ _ _ _ _ _ _ _ _ _ _ _ _ _ _ _ _ _ _ _ _ _ _ _ _ _ _ hr
    · refine (congrArg (fun z => z.2.2.1) e).trans ?_; dsimp only; exact sout0_A _ _ _ _ _ _ _ _ _ _ _ _ _ _ _ _ _ _ _ _ _ _ _ _ _ _ _ _ _ _ _ _ _ _ _ _ _ _ _ _ _ _ hr
    · refine (congrArg (fun z => z.2.2.2.1) e).trans ?_; dsimp only; exact sout1_A _ _ _ _ _ _ _ _ _ _ _ _ _ _ _ _ _ _ _ _ _ _ _ _ _ _ _ _ _ _ _ _ _ _ _ _ _ _ _ _ _ _ hr
    · refine (congrArg (fun z => z.2.2.2.2) e).trans ?_; dsimp only; exact sout2_A _ _ _ _ _ _ _ _ _ _ _ _ _ _ _ _ _ _ _ _ _ _ _ _ _ _ _ _ _ _ _ _ _ _ _ _ _ _ _ _ _ _ hr
  | n + 1, hn => by
    have hN : n + 1 < 16 := lt_of_lt_of_eq hn (show cfg0.N = 16 from N_0)
    obtain ⟨-, i0, i1, i2, -⟩ := outs_val hr n (Nat.lt_of_succ_lt hn)
    have h0 : ¬ (n + 1) % 16 = 0 := by omega
    have e5 := iblk5 m c ⟨n + 1, hn⟩
    by_cases h1 : (n + 1) % 16 = 15
    · have e := outsAt0_C m c ⟨n + 1, hn⟩ h0 h1
      dsimp only at e
      simp only [Nat.add_sub_cancel] at e
      rw [e5, i0, i1, i2] at e
      refine ⟨?_, ?_, ?_, ?_, fun _ => ?_⟩
      · refine (congrArg (fun z => z.1) e).trans ?_; dsimp only; exact out6_C _ _ _ _ _ _ _ _ _ _ _ _ _ _ _ _ _ _ _ _ _ _ _ _ _ _ _ _ _ _ _ _ _ _ _ _ _ _ _ _ _ _ _ _ _
      · exact congrArg (fun z => z.2.2.1) e
      · exact congrArg (fun z => z.2.2.2.1) e
      · refine (congrArg (fun z => z.2.2.2.2) e).trans ?_; dsimp only; exact sout2_C _ _ _ _ _ _ _ _ _ _ _ _ _ _ _ _ _ _ _ _ _ _ _ _ _ _ _ _ _ _ _ _ _ _ _ _ _ _ _ _ _ _ _ _ _
      · refine (congrArg (fun z => z.2.1) e).trans ?_; dsimp only; exact out7_C _ _ _ _ _ _ _ _ _ _ _ _ _ _ _ _ _ _ _ _ _ _ _ _ _ _ _ _ _ _ _ _ _ _ _ _ _ _ _ _ _ _ _ _ _
    · have e := outsAt0_B m c ⟨n + 1, hn⟩ h0 h1
      dsimp only at e
      simp only [Nat.add_sub_cancel] at e
      rw [e5, i0, i1, i2] at e
      refine ⟨?_, ?_, ?_, ?_, fun h => absurd h (by omega)⟩
      · refine (congrArg (fun z => z.1) e).trans ?_; dsimp only; exact out6_B _ _ _ _ _ _ _ _ _ _ _ _ _ _ _ _ _ _ _ _ _ _ _ _ _ _ _ _ _ _ _ _ _ _ _ _ _ _ _ _ _ _ _ _ _
      · exact congrArg (fun z => z.2.2.1) e
      · exact congrArg (fun z => z.2.2.2.1) e
      · refine (congrArg (fun z => z.2.2.2.2) e).trans ?_; dsimp only; exact sout2_B _ _ _ _ _ _ _ _ _ _ _ _ _ _ _ _ _ _ _ _ _ _ _ _ _ _ _ _ _ _ _ _ _ _ _ _ _ _ _ _ _ _ _ _ _

end Cert.KernelIdeal.Val

end
-- ==== Proof.KernelArr.lean ====
module

public import proofs.«01_k».proof.Proof.GridVal

@[expose] public section

set_option maxRecDepth 16384

noncomputable section

namespace Cert.KernelIdeal.Val

open Idealize.ShloMosaic Idealize.ShloMosaic.TcCoe Idealize.ShloMosaic.Tactic Idealize.ShloMosaic.Pipeline
open Cert.KernelIdeal Cert.KernelIdeal.Gen

set_option maxHeartbeats 1000000

variable (m : (ℓ : Loc nD τ sig) → Buf (Elt Ideal) ℓ) (c : Dev nD)

/-- The codes of y as the grid finds them. -/
def yA : S2x1024x18432.Idx → EReal := V m c main_v0
/-- The codes of dy as the grid finds them. -/
def dA : S2x1024x18432.Idx → EReal := V m c main_v1
/-- The block scales of y. -/
def sA : S2x1024x144.Idx → EReal := V m c main_arg1
/-- The row scales of dy. -/
def dsA : S2x1024.Idx → EReal := V m c main_arg3
/-- The row factors. -/
def rA : S2x1024.Idx → EReal := V m c main_arg4

/-- The token at place `s` of grid point `t`. -/
def tok (t : Fin cfg0.N) (s : Fin 128) : Fin 1024 := ⟨128 * (grid0.coords t 1).val + s.val, by have h : (grid0.coords t 1).val < 8 := (grid0.coords t 1).isLt; omega⟩

theorem idx0 : ∀ t : Fin cfg0.N, win0_0.index t 0 = (grid0.coords t 0).val ∧ win0_0.index t 1 = (grid0.coords t 1).val ∧ win0_0.index t 2 = 0 :=
  (by decide +kernel : ∀ t : Fin grid0.N, win0_0.index t 0 = (grid0.coords t 0).val ∧ win0_0.index t 1 = (grid0.coords t 1).val ∧ win0_0.index t 2 = 0)
theorem idx1 : ∀ t : Fin cfg0.N, win0_1.index t 0 = (grid0.coords t 0).val ∧ win0_1.index t 1 = (grid0.coords t 1).val ∧ win0_1.index t 2 = 0 :=
  (by decide +kernel : ∀ t : Fin grid0.N, win0_1.index t 0 = (grid0.coords t 0).val ∧ win0_1.index t 1 = (grid0.coords t 1).val ∧ win0_1.index t 2 = 0)
theorem idx2 : ∀ t : Fin cfg0.N, win0_2.index t 0 = (grid0.coords t 0).val ∧ win0_2.index t 1 = (grid0.coords t 1).val ∧ win0_2.index t 2 = 0 :=
  (by decide +kernel : ∀ t : Fin grid0.N, win0_2.index t 0 = (grid0.coords t 0).val ∧ win0_2.index t 1 = (grid0.coords t 1).val ∧ win0_2.index t 2 = 0)
theorem idx6 : ∀ t : Fin cfg0.N, win0_6.index t 0 = (grid0.coords t 0).val ∧ win0_6.index t 1 = (grid0.coords t 1).val ∧ win0_6.index t 2 = 0 :=
  (by decide +kernel : ∀ t : Fin grid0.N, win0_6.index t 0 = (grid0.coords t 0).val ∧ win0_6.index t 1 = (grid0.coords t 1).val ∧ win0_6.index t 2 = 0)

theorem iblk0 (t : Fin cfg0.N) (s : Fin 128) (j : Fin 18432) :
    iblk m c 0 t (ix3 (n0 := 1) (n1 := 128) (n2 := 18432) 0 s j) = yA m c (ix3 (n0 := 2) (n1 := 1024) (n2 := 18432) (grid0.coords t 0) (tok t s) j) := by
  obtain ⟨e0, e1, e2⟩ := idx0 t
  unfold yA tok
  blk_simp [iblk]
  congr 1
  funext a
  apply Fin.ext
  match a with
  | ⟨0, _⟩ => blk_simp [e0]; simp
  | ⟨1, _⟩ => blk_simp [e1]; simp; omega
  | ⟨2, _⟩ => blk_simp [e2]

theorem iblk1 (t : Fin cfg0.N) (s : Fin 128) (q : Fin 144) :
    iblk m c 1 t (ix3 (n0 := 1) (n1 := 128) (n2 := 144) 0 s q) = sA m c (ix3 (n0 := 2) (n1 := 1024) (n2 := 144) (grid0.coords t 0) (tok t s) q) := by
  obtain ⟨e0, e1, e2⟩ := idx1 t
  unfold sA tok
  blk_simp [iblk]
  congr 1
  funext a
  apply Fin.ext
  match a with
  | ⟨0, _⟩ => blk_simp [e0]; simp
  | ⟨1, _⟩ => blk_simp [e1]; simp; omega
  | ⟨2, _⟩ => blk_simp [e2]

theorem iblk2 (t : Fin cfg0.N) (s : Fin 128) (j : Fin 18432) :
    iblk m c 2 t (ix3 (n0 := 1) (n1 := 128) (n2 := 18432) 0 s j) = dA m c (ix3 (n0 := 2) (n1 := 1024) (n2 := 18432) (grid0.coords t 0) (tok t s) j) := by
  obtain ⟨e0, e1, e2⟩ := idx2 t
  unfold dA tok
  blk_simp [iblk]
  congr 1
  funext a
  apply Fin.ext
  match a with
  | ⟨0, _⟩ => blk_simp [e0]; simp
  | ⟨1, _⟩ => blk_simp [e1]; simp; omega
  | ⟨2, _⟩ => blk_simp [e2]

theorem iblk3 (t : Fin cfg0.N) : iblk m c 3 t = dsA m c := by
  have e : ∀ t : Fin cfg0.N, ∀ a, win0_3.index t a = 0 := (by decide +kernel : ∀ t : Fin grid0.N, ∀ a, win0_3.index t a = 0)
  funext y
  unfold dsA
  blk_simp [iblk]
  congr 1
  funext a
  apply Fin.ext
  match a with
  | ⟨0, _⟩ => blk_simp [e]
  | ⟨1, _⟩ => blk_simp [e]

theorem iblk4 (t : Fin cfg0.N) : iblk m c 4 t = rA m c := by
  have e : ∀ t : Fin cfg0.N, ∀ a, win0_4.index t a = 0 := (by decide +kernel : ∀ t : Fin grid0.N, ∀ a, win0_4.index t a = 0)
  funext y
  unfold rA
  blk_simp [iblk]
  congr 1
  funext a
  apply Fin.ext
  match a with
  | ⟨0, _⟩ => blk_simp [e]
  | ⟨1, _⟩ => blk_simp [e]

/-- The point whose block holds a token of a batch. -/
def ptOf (b : Fin 2) (t : Fin 1024) : Fin cfg0.N := ⟨8 * b.val + t.val / 128, by rw [show cfg0.N = 16 from N_0]; omega⟩

/-- The gradient of the input at a place. -/
def dxA (y : S2x1024x18432.Idx) : EReal :=
  (outsAt0 m c (ptOf (y 0) (y 1)).val (ptOf (y 0) (y 1)).isLt).1 (ix3 (n0 := 1) (n1 := 128) (n2 := 18432) 0 ⟨(y 1).val % 128, by omega⟩ (y 2))

theorem coords_val : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- The array that the kernel leaves for the gradient of the input. -/
theorem arr6 : (dats m 0 c).arrAt 6 cfg0.N = dxA m c := by
  refine (dats m 0 c).arrAt_eq_of_covers 6 _ (by decide +kernel) fun t hf y => ?_
  blk_simp
  rw [after0_6]
  unfold dxA
  obtain ⟨e0, e1, e2⟩ := idx6 t
  obtain ⟨c0, c1⟩ := coords_val t
  have ht : t.val < 16 := lt_of_lt_of_eq t.isLt (show cfg0.N = 16 from N_0)
  have y0 : (y 0).val < 1 := (y 0).isLt
  have y1 : (y 1).val < 128 := (y 1).isLt
  have hp : ptOf (((win0_6.blk t).view.emb y) 0) (((win0_6.blk t).view.emb y) 1) = t := by
    apply Fin.ext
    unfold ptOf
    blk_simp [e0, e1]
    dsimp only
    rw [c0, c1]
    omega
  have key : ∀ (t' : Fin cfg0.N) (y' : S1x128x18432.Idx), t' = t → y = y' →
      (outsAt0 m c t.val t.isLt).1 y = (outsAt0 m c t'.val t'.isLt).1 y' := by
    rintro t' y' rfl rfl; rfl
  refine key _ _ hp ?_
  funext a
  apply Fin.ext
  match a with
  | ⟨0, _⟩ => show (y 0).val = 0; omega
  | ⟨1, _⟩ =>
    show (y 1).val = ((win0_6.blk t).view.emb y 1).val % 128
    blk_simp [e1]
    omega
  | ⟨2, _⟩ =>
    show (y 2).val = ((win0_6.blk t).view.emb y 2).val
    blk_simp [e2]

/-- The last grid point. -/
def t15 : Fin cfg0.N := ⟨15, by rw [show cfg0.N = 16 from N_0]; decide⟩

/-- The array that the kernel leaves for the gradient of the gain. -/
theorem arr7 (hr : ∀ y, ∃ a : ℝ, gV m c y * igG m c y = (a : EReal)) :
    (dats m 0 c).arrAt 7 cfg0.N = dgammaG (dgAcc m c 15 t15.isLt) (igG m c) := by
  refine (dats m 0 c).arrAt_eq_of_after_last 7 t15 (by decide +kernel) _ fun j => ?_
  blk_simp
  rw [after0_7]
  exact congrFun ((outs_val m c hr 15 t15.isLt).2.2.2.2 rfl) _

end Cert.KernelIdeal.Val

end
-- ==== Proof.CSum.lean ====
module

public import proofs.«01_k».proof.Proof.Model

@[expose] public section

set_option maxRecDepth 16384

noncomputable section

namespace Cert.KernelIdeal.Val

open Idealize.ShloMosaic Idealize.ShloMosaic.TcCoe Idealize.ShloMosaic.Tactic
open Cert.KernelIdeal Cert.KernelIdeal.Gen

set_option maxHeartbeats 1000000

/-- A sum over `Fin (a * b)` by rows of `b`. -/
theorem sum_rows {M : Type} [AddCommMonoid M] (a b n : ℕ) (h : n = a * b) (f : Fin n → M) :
    ∑ j, f j = ∑ q : Fin a, ∑ l : Fin b, f ⟨b * q.val + l.val, by
      subst h
      have := q.isLt; have := l.isLt
      calc b * q.val + l.val < b * q.val + b := by omega
        _ = b * (q.val + 1) := by ring
        _ ≤ b * a := Nat.mul_le_mul_left _ (by omega)
        _ = a * b := Nat.mul_comm _ _⟩ := by
  subst h
  rw [← finProdFinEquiv.sum_comp, Fintype.sum_prod_type]
  refine Finset.sum_congr rfl fun q _ => Finset.sum_congr rfl fun l _ => congrArg f ?_
  apply Fin.ext
  show l.val + b * q.val = b * q.val + l.val
  omega

/-- The term of column `128 q + l` in the inner product. -/
def cT (x0 x2 : S1x128x18432.Idx → EReal) (g ig : S144x128.Idx → EReal) (s : Fin 128) (q : Fin 144) (l : Fin 128) : EReal :=
  g (ix2 (n0 := 144) (n1 := 128) q l) * ig (ix2 (n0 := 144) (n1 := 128) q l)
    * (x0 (ix3 (n0 := 1) (n1 := 128) (n2 := 18432) 0 s ⟨128 * q.val + l.val, by omega⟩)
      * x2 (ix3 (n0 := 1) (n1 := 128) (n2 := 18432) 0 s ⟨128 * q.val + l.val, by omega⟩))

/-- The folded row at an index. -/
theorem lrG_ix (g ig : S144x128.Idx → EReal) (q : Fin 72) (r : Fin 32) (h : Fin 2) (l : Fin 128) (l' : Fin 256)
    (e : l'.val = 128 * h.val + l.val) :
    lrG g ig (ix3 (n0 := 72) (n1 := 32) (n2 := 256) q r l')
      = if r.val = 2 * (q.val % 4) + h.val
        then g (ix2 (n0 := 144) (n1 := 128) ⟨2 * q.val + h.val, by omega⟩ l)
          * ig (ix2 (n0 := 144) (n1 := 128) ⟨2 * q.val + h.val, by omega⟩ l) else 0 := by
  have e1 : l'.val / 128 = h.val := by omega
  have e2 : l'.val % 128 = l.val := by omega
  have k : ∀ (a : ℕ) (b : ℕ) (ha : 2 * q.val + a < 144) (hb : b < 128), a = h.val → b = l.val →
      (if r.val = 2 * (q.val % 4) + a then g (ix2 (n0 := 144) (n1 := 128) ⟨2 * q.val + a, ha⟩ ⟨b, hb⟩)
          * ig (ix2 (n0 := 144) (n1 := 128) ⟨2 * q.val + a, ha⟩ ⟨b, hb⟩) else 0)
      = if r.val = 2 * (q.val % 4) + h.val
        then g (ix2 (n0 := 144) (n1 := 128) ⟨2 * q.val + h.val, by omega⟩ l)
          * ig (ix2 (n0 := 144) (n1 := 128) ⟨2 * q.val + h.val, by omega⟩ l) else 0 := by
    rintro a b ha hb rfl rfl; rfl
  exact k (l'.val / 128) (l'.val % 128) (by omega) (by omega) e1 e2

/-- One term of a chunk. -/
theorem lr_term (x0 x2 : S1x128x18432.Idx → EReal) (g ig : S144x128.Idx → EReal) (q : Fin 72) (r : Fin 32) (s : Fin 128)
    (h : Fin 2) (l : Fin 128) (l' : Fin 256) (e : l'.val = 128 * h.val + l.val) :
    lrG g ig (ix3 (n0 := 72) (n1 := 32) (n2 := 256) q r l') * codeProd x0 x2 q s l'
      = if r.val = 2 * (q.val % 4) + h.val then cT x0 x2 g ig s ⟨2 * q.val + h.val, by omega⟩ l else 0 := by
  rw [lrG_ix g ig q r h l l' e]
  split
  · unfold cT codeProd
    have : (⟨256 * q.val + l'.val, by omega⟩ : Fin 18432) = ⟨128 * (2 * q.val + h.val) + l.val, by omega⟩ := by
      apply Fin.ext; simp only; omega
    rw [this]
  · exact zero_mul _

/-- The share of a chunk of 256 columns in row `r`: the half whose row it is. -/
theorem cChunk_eq (x0 x2 : S1x128x18432.Idx → EReal) (g ig : S144x128.Idx → EReal) (q : Fin 72) (r : Fin 32) (s : Fin 128) :
    cChunk x0 x2 (lrG g ig) q r s
      = (if r.val = 2 * (q.val % 4) then ∑ l : Fin 128, cT x0 x2 g ig s ⟨2 * q.val, by omega⟩ l else 0)
        + (if r.val = 2 * (q.val % 4) + 1 then ∑ l : Fin 128, cT x0 x2 g ig s ⟨2 * q.val + 1, by omega⟩ l else 0) := by
  unfold cChunk
  rw [sum_rows 2 128 256 rfl, Fin.sum_univ_two]
  refine congrArg₂ (· + ·) ?_ ?_
  · rw [Finset.sum_congr rfl fun l _ => lr_term x0 x2 g ig q r s 0 l _ rfl]
    show (∑ l : Fin 128, if r.val = 2 * (q.val % 4) then cT x0 x2 g ig s ⟨2 * q.val, by omega⟩ l else 0) = _
    split
    · rfl
    · exact Finset.sum_const_zero
  · rw [Finset.sum_congr rfl fun l _ => lr_term x0 x2 g ig q r s 1 l _ rfl]
    show (∑ l : Fin 128, if r.val = 2 * (q.val % 4) + 1 then cT x0 x2 g ig s ⟨2 * q.val + 1, by omega⟩ l else 0) = _
    split
    · rfl
    · exact Finset.sum_const_zero

/-- Row `r` of four chunks: the row of 128 columns it belongs to. -/
theorem cRow_lo (x0 x2 : S1x128x18432.Idx → EReal) (g ig : S144x128.Idx → EReal) (k : Fin 18) (r : Fin 32) (hr : r.val < 8) (s : Fin 128) :
    cRow x0 x2 (lrG g ig) k r s = ∑ l : Fin 128, cT x0 x2 g ig s ⟨8 * k.val + r.val, by omega⟩ l := by
  unfold cRow
  simp only [cChunk_eq]
  have eI : ∀ (n n' : ℕ) (h : n < 144) (h' : n' < 144), n = n' →
      ∑ l : Fin 128, cT x0 x2 g ig s ⟨n, h⟩ l = ∑ l : Fin 128, cT x0 x2 g ig s ⟨n', h'⟩ l := by
    rintro n n' h h' rfl; rfl
  have e0 : 4 * k.val % 4 = 0 := by omega
  have e1 : (4 * k.val + 1) % 4 = 1 := by omega
  have e2 : (4 * k.val + 2) % 4 = 2 := by omega
  have e3 : (4 * k.val + 3) % 4 = 3 := by omega
  simp only [e0, e1, e2, e3]
  obtain ⟨r, hr'⟩ := r
  simp only at hr
  interval_cases r <;> norm_num <;> exact eI _ _ _ _ (by omega)

/-- The other rows are zero. -/
theorem cRow_hi (x0 x2 : S1x128x18432.Idx → EReal) (g ig : S144x128.Idx → EReal) (k : Fin 18) (r : Fin 32) (hr : 8 ≤ r.val) (s : Fin 128) :
    cRow x0 x2 (lrG g ig) k r s = 0 := by
  unfold cRow
  simp only [cChunk_eq]
  have z : ∀ (a : ℕ) (ha : a < 8) (x : EReal), (if r.val = a then x else 0) = 0 := by
    intro a ha x; rw [if_neg (by omega)]
  rw [z _ (by omega), z _ (by omega), z _ (by omega), z _ (by omega), z _ (by omega), z _ (by omega), z _ (by omega), z _ (by omega)]
  simp

/-- One step of the running sums. -/
theorem cStep_eq (x0 x2 : S1x128x18432.Idx → EReal) (g ig : S144x128.Idx → EReal) (x13 : S144x128.Idx → EReal) (k : Fin 18)
    (f : S8x128.Idx → EReal) (r : Fin 8) (s : Fin 128) :
    cStep x0 x2 (lrG g ig) x13 k f (ix2 (n0 := 8) (n1 := 128) r s)
      = f (ix2 (n0 := 8) (n1 := 128) r s)
        + (∑ l : Fin 128, cT x0 x2 g ig s ⟨8 * k.val + r.val, by omega⟩ l)
          * x13 (ix2 (n0 := 144) (n1 := 128) ⟨8 * k.val + r.val, by omega⟩ s) := by
  have h := cRow_lo x0 x2 g ig k ⟨r.val, by omega⟩ r.isLt s
  have h1 := cRow_hi x0 x2 g ig k ⟨8 + r.val, by omega⟩ (by simp) s
  have h2 := cRow_hi x0 x2 g ig k ⟨16 + r.val, by omega⟩ (by simp; omega) s
  have := congrArg₂ (· + ·) (congrArg₂ (· + ·) h h1) h2
  simp only [add_zero] at this
  unfold cStep
  exact congrArg (fun z => f (ix2 (n0 := 8) (n1 := 128) r s) + z * x13 (ix2 (n0 := 144) (n1 := 128) ⟨8 * k.val + r.val, by omega⟩ s)) this

/-- The share of row `n` of 128 columns in the inner product. -/
def cQ (x0 x2 : S1x128x18432.Idx → EReal) (x1 : S1x128x144.Idx → EReal) (g ig : S144x128.Idx → EReal) (s : Fin 128) (n : ℕ) : EReal :=
  if h : n < 144 then (∑ l : Fin 128, cT x0 x2 g ig s ⟨n, h⟩ l) * stV x1 ⟨n, h⟩ s else 0

/-- The running sums after `n` groups. -/
theorem cAcc_eq (x0 x2 : S1x128x18432.Idx → EReal) (x1 : S1x128x144.Idx → EReal) (g ig : S144x128.Idx → EReal) (r : Fin 8) (s : Fin 128) :
    ∀ n, n ≤ 18 → cAcc x0 x2 (lrG g ig) (fun y => stV x1 (y 0) (y 1)) (fun _ => 0) n (ix2 (n0 := 8) (n1 := 128) r s)
      = ∑ k ∈ Finset.range n, cQ x0 x2 x1 g ig s (8 * k + r.val)
  | 0, _ => rfl
  | n + 1, h => by
    rw [Finset.sum_range_succ, ← cAcc_eq x0 x2 x1 g ig r s n (by omega)]
    show (if h : n < 18 then _ else _ : S8x128.Idx → EReal) _ = _
    rw [dif_pos (by omega), cStep_eq]
    refine congrArg₂ (· + ·) rfl ?_
    unfold cQ
    rw [dif_pos (by have := r.isLt; omega)]
    rfl

/-- The inner product over the columns, row by row of 128. -/
theorem cV_eq (x0 x2 : S1x128x18432.Idx → EReal) (x1 : S1x128x144.Idx → EReal) (g ig : S144x128.Idx → EReal) (s : Fin 128) :
    cV x0 x2 x1 (lrG g ig) s
      = ∑ q : Fin 144, (∑ l : Fin 128, cT x0 x2 g ig s q l) * stV x1 q s := by
  unfold cV
  rw [Finset.sum_congr rfl fun r _ => cAcc_eq x0 x2 x1 g ig r s 18 (by omega)]
  rw [sum_rows 18 8 144 rfl, Finset.sum_comm]
  rw [Finset.sum_range]
  refine Finset.sum_congr rfl fun k _ => Finset.sum_congr rfl fun r _ => ?_
  unfold cQ
  rw [dif_pos (by have := r.isLt; have := k.isLt; omega)]

end Cert.KernelIdeal.Val

end
-- ==== Proof.Closed.lean ====
module

public import proofs.«01_k».proof.Proof.KernelArr
public import proofs.«01_k».proof.Proof.CSum

@[expose] public section

set_option maxRecDepth 16384

noncomputable section

namespace Cert.KernelIdeal.Val

open Idealize.ShloMosaic Idealize.ShloMosaic.TcCoe Idealize.ShloMosaic.Tactic Idealize.ShloMosaic.Pipeline
open Cert.KernelIdeal Cert.KernelIdeal.Gen

set_option maxHeartbeats 1000000

/-- Column `128 q + l`. -/
def col (q : Fin 144) (l : Fin 128) : Fin 18432 := ⟨128 * q.val + l.val, by omega⟩

/-- The inner product of a token as the kernel computes it, before the row scale. -/
def kC (Y D : S2x1024x18432.Idx → EReal) (S : S2x1024x144.Idx → EReal) (G IG : S144x128.Idx → EReal) (b : Fin 2) (t : Fin 1024) : EReal :=
  ∑ q : Fin 144, (∑ l : Fin 128, G (ix2 (n0 := 144) (n1 := 128) q l) * IG (ix2 (n0 := 144) (n1 := 128) q l)
      * (Y (ix3 (n0 := 2) (n1 := 1024) (n2 := 18432) b t (col q l)) * D (ix3 (n0 := 2) (n1 := 1024) (n2 := 18432) b t (col q l))))
    * S (ix3 (n0 := 2) (n1 := 1024) (n2 := 144) b t q)

/-- The gradient of the input as the kernel computes it. -/
def kDx (Y D : S2x1024x18432.Idx → EReal) (S : S2x1024x144.Idx → EReal) (DS R : S2x1024.Idx → EReal) (G IG : S144x128.Idx → EReal)
    (b : Fin 2) (t : Fin 1024) (q : Fin 144) (l : Fin 128) : EReal :=
  D (ix3 (n0 := 2) (n1 := 1024) (n2 := 18432) b t (col q l)) * G (ix2 (n0 := 144) (n1 := 128) q l)
      * (R (ix2 (n0 := 2) (n1 := 1024) b t) * DS (ix2 (n0 := 2) (n1 := 1024) b t))
    - Y (ix3 (n0 := 2) (n1 := 1024) (n2 := 18432) b t (col q l)) * IG (ix2 (n0 := 144) (n1 := 128) q l)
      * (S (ix3 (n0 := 2) (n1 := 1024) (n2 := 144) b t q)
        * (R (ix2 (n0 := 2) (n1 := 1024) b t) * (kC Y D S G IG b t * DS (ix2 (n0 := 2) (n1 := 1024) b t) * ((1 / 18432 : ℝ) : EReal))))

/-- The gradient of the gain as the kernel computes it. -/
def kDg (Y D : S2x1024x18432.Idx → EReal) (S : S2x1024x144.Idx → EReal) (DS : S2x1024.Idx → EReal) (IG : S144x128.Idx → EReal)
    (q : Fin 144) (l : Fin 128) : EReal :=
  (∑ b : Fin 2, ∑ t : Fin 1024, (S (ix3 (n0 := 2) (n1 := 1024) (n2 := 144) b t q) * DS (ix2 (n0 := 2) (n1 := 1024) b t))
    * (Y (ix3 (n0 := 2) (n1 := 1024) (n2 := 18432) b t (col q l)) * D (ix3 (n0 := 2) (n1 := 1024) (n2 := 18432) b t (col q l))))
  * IG (ix2 (n0 := 144) (n1 := 128) q l)

variable (m : (ℓ : Loc nD τ sig) → Buf (Elt Ideal) ℓ) (c : Dev nD)

/-- The inner product at grid point `p`, place `s`. -/
theorem cV_ix (p : Fin cfg0.N) (s : Fin 128) :
    cV (iblk m c 0 p) (iblk m c 2 p) (iblk m c 1 p) (lrV m c) s
      = kC (yA m c) (dA m c) (sA m c) (gV m c) (igG m c) (grid0.coords p 0) (tok p s) := by
  unfold lrV
  rw [cV_eq]
  unfold kC
  refine Finset.sum_congr rfl fun q _ => ?_
  refine congrArg₂ (· * ·) (Finset.sum_congr rfl fun l _ => ?_) (iblk1 m c p s q)
  exact congrArg₂ (· * ·) rfl (congrArg₂ (· * ·) (iblk0 m c p s (col q l)) (iblk2 m c p s (col q l)))

/-- One grid point's block of the gradient of the input, at an index. -/
theorem dxV_ix (p : Fin cfg0.N) (s : Fin 128) (q : Fin 144) (l : Fin 128) :
    dxV (grid0.coords p) (iblk m c 0 p) (iblk m c 2 p) (iblk m c 1 p) (iblk m c 3 p) (iblk m c 4 p) (gV m c) (igG m c) (lrV m c)
        (ix3 (n0 := 1) (n1 := 128) (n2 := 18432) 0 s (col q l))
      = kDx (yA m c) (dA m c) (sA m c) (dsA m c) (rA m c) (gV m c) (igG m c) (grid0.coords p 0) (tok p s) q l := by
  have h1 : (col q l).val / 128 = q.val := by show (128 * q.val + l.val) / 128 = _; omega
  have h2 : (col q l).val % 128 = l.val := by show (128 * q.val + l.val) % 128 = _; omega
  have h3 : 8 * ((col q l).val / 1024) + (col q l).val / 128 % 8 = q.val := by show 8 * ((128 * q.val + l.val) / 1024) + (128 * q.val + l.val) / 128 % 8 = _; omega
  have k : ∀ (x0 x2 : S1x128x18432.Idx → EReal) (x1 : S1x128x144.Idx → EReal) (x3 x4 : S2x1024.Idx → EReal),
      x0 (ix3 (n0 := 1) (n1 := 128) (n2 := 18432) 0 s (col q l)) = yA m c (ix3 (n0 := 2) (n1 := 1024) (n2 := 18432) (grid0.coords p 0) (tok p s) (col q l)) →
      x2 (ix3 (n0 := 1) (n1 := 128) (n2 := 18432) 0 s (col q l)) = dA m c (ix3 (n0 := 2) (n1 := 1024) (n2 := 18432) (grid0.coords p 0) (tok p s) (col q l)) →
      x1 (ix3 (n0 := 1) (n1 := 128) (n2 := 144) 0 s q) = sA m c (ix3 (n0 := 2) (n1 := 1024) (n2 := 144) (grid0.coords p 0) (tok p s) q) →
      x3 = dsA m c → x4 = rA m c →
      cV x0 x2 x1 (lrV m c) s = kC (yA m c) (dA m c) (sA m c) (gV m c) (igG m c) (grid0.coords p 0) (tok p s) →
      ∀ (a b d : ℕ) (ha : a < 144) (hb : b < 128) (hd : d < 144), a = q.val → b = l.val → d = q.val →
      x2 (ix3 (n0 := 1) (n1 := 128) (n2 := 18432) 0 s (col q l)) * gV m c (ix2 (n0 := 144) (n1 := 128) ⟨a, ha⟩ ⟨b, hb⟩)
          * (rowV (grid0.coords p) x4 s * rowV (grid0.coords p) x3 s)
        - x0 (ix3 (n0 := 1) (n1 := 128) (n2 := 18432) 0 s (col q l)) * igG m c (ix2 (n0 := 144) (n1 := 128) ⟨a, ha⟩ ⟨b, hb⟩)
          * (stV x1 ⟨d, hd⟩ s * (rowV (grid0.coords p) x4 s
            * (cV x0 x2 x1 (lrV m c) s * rowV (grid0.coords p) x3 s * ((1 / 18432 : ℝ) : EReal))))
      = kDx (yA m c) (dA m c) (sA m c) (dsA m c) (rA m c) (gV m c) (igG m c) (grid0.coords p 0) (tok p s) q l := by
    rintro x0 x2 x1 x3 x4 e0 e2 e1 rfl rfl ec a b d ha hb hd rfl rfl rfl
    have e1' : stV x1 q s = sA m c (ix3 (n0 := 2) (n1 := 1024) (n2 := 144) (grid0.coords p 0) (tok p s) q) := e1
    rw [e0, e2, ec, e1']
    rfl
  exact k _ _ _ _ _ (iblk0 m c p s (col q l)) (iblk2 m c p s (col q l)) (iblk1 m c p s q) (iblk3 m c p) (iblk4 m c p) (cV_ix m c p s)
    _ _ _ _ _ _ h1 h2 h3

/-- The gradient of the input at an index. -/
theorem dxA_ix (hr : ∀ y, ∃ a : ℝ, gV m c y * igG m c y = (a : EReal)) (b : Fin 2) (t : Fin 1024) (q : Fin 144) (l : Fin 128) :
    dxA m c (ix3 (n0 := 2) (n1 := 1024) (n2 := 18432) b t (col q l))
      = kDx (yA m c) (dA m c) (sA m c) (dsA m c) (rA m c) (gV m c) (igG m c) b t q l := by
  unfold dxA
  have h := (outs_val m c hr (ptOf b t).val (ptOf b t).isLt).1
  have h2 := (congrFun h (ix3 (n0 := 1) (n1 := 128) (n2 := 18432) 0 ⟨t.val % 128, Nat.mod_lt _ (by decide)⟩ (col q l))).trans
    (dxV_ix m c (ptOf b t) ⟨t.val % 128, Nat.mod_lt _ (by decide)⟩ q l)
  refine Eq.trans ?_ (h2.trans ?_)
  · rfl
  · obtain ⟨c0, c1⟩ := coords_val (ptOf b t)
    have hb := b.isLt
    have ht := t.isLt
    have hp : (ptOf b t).val = 8 * b.val + t.val / 128 := rfl
    have f0 : grid0.coords (ptOf b t) 0 = b := by apply Fin.ext; rw [c0, hp]; omega
    have f1 : tok (ptOf b t) ⟨t.val % 128, Nat.mod_lt _ (by decide)⟩ = t := by
      apply Fin.ext
      show 128 * (grid0.coords (ptOf b t) 1).val + t.val % 128 = t.val
      rw [c1, hp]; omega
    exact congrArg₂ (fun b t => kDx (yA m c) (dA m c) (sA m c) (dsA m c) (rA m c) (gV m c) (igG m c) b t q l) f0 f1

/-- What grid point `n` adds to the sums for the gradient of the gain. -/
def dgT (n : ℕ) (q : Fin 144) (l : Fin 128) : EReal :=
  if h : n < cfg0.N then ∑ s : Fin 128, (sA m c (ix3 (n0 := 2) (n1 := 1024) (n2 := 144) (grid0.coords ⟨n, h⟩ 0) (tok ⟨n, h⟩ s) q)
      * dsA m c (ix2 (n0 := 2) (n1 := 1024) (grid0.coords ⟨n, h⟩ 0) (tok ⟨n, h⟩ s)))
    * (yA m c (ix3 (n0 := 2) (n1 := 1024) (n2 := 18432) (grid0.coords ⟨n, h⟩ 0) (tok ⟨n, h⟩ s) (col q l))
      * dA m c (ix3 (n0 := 2) (n1 := 1024) (n2 := 18432) (grid0.coords ⟨n, h⟩ 0) (tok ⟨n, h⟩ s) (col q l)))
  else 0

/-- Where row `q`, lane `l` of the gain sits in the sums. -/
def dgAt (q : Fin 144) (l : Fin 128) : S72x8x256.Idx :=
  ix3 (n0 := 72) (n1 := 8) (n2 := 256) ⟨q.val / 2, by omega⟩ ⟨q.val % 8, by omega⟩ ⟨128 * (q.val % 2) + l.val, by omega⟩

theorem dgV_ix (n : ℕ) (hn : n < cfg0.N) (prev : S72x8x256.Idx → EReal) (q : Fin 144) (l : Fin 128) :
    dgV (grid0.coords ⟨n, hn⟩) (iblk m c 0 ⟨n, hn⟩) (iblk m c 2 ⟨n, hn⟩) (iblk m c 1 ⟨n, hn⟩) (iblk m c 3 ⟨n, hn⟩) prev (dgAt q l)
      = prev (dgAt q l) + dgT m c n q l := by
  unfold dgV dgT
  rw [dif_pos hn]
  refine congrArg₂ (· + ·) rfl (Finset.sum_congr rfl fun s _ => ?_)
  have e3 : rowV (grid0.coords ⟨n, hn⟩) (iblk m c 3 ⟨n, hn⟩) s = dsA m c (ix2 (n0 := 2) (n1 := 1024) (grid0.coords ⟨n, hn⟩ 0) (tok ⟨n, hn⟩ s)) := by rw [iblk3]; rfl
  refine congrArg₂ (· * ·) (congrArg₂ (· * ·) ?_ e3) (congrArg₂ (· * ·) ?_ ?_)
  · refine Eq.trans ?_ (iblk1 m c ⟨n, hn⟩ s q)
    have k : ∀ a (ha : a < 144), a = q.val → stV (iblk m c 1 ⟨n, hn⟩) ⟨a, ha⟩ s = stV (iblk m c 1 ⟨n, hn⟩) q s := by rintro a ha rfl; rfl
    exact k (8 * (q.val / 2 / 4) + q.val % 8) _ (by omega)
  · refine Eq.trans ?_ (iblk0 m c ⟨n, hn⟩ s (col q l))
    have k : ∀ a (ha : a < 18432), a = 128 * q.val + l.val → iblk m c 0 ⟨n, hn⟩ (ix3 (n0 := 1) (n1 := 128) (n2 := 18432) 0 s ⟨a, ha⟩)
      = iblk m c 0 ⟨n, hn⟩ (ix3 (n0 := 1) (n1 := 128) (n2 := 18432) 0 s (col q l)) := by rintro a ha rfl; rfl
    exact k (256 * (q.val / 2) + (128 * (q.val % 2) + l.val)) _ (by omega)
  · refine Eq.trans ?_ (iblk2 m c ⟨n, hn⟩ s (col q l))
    have k : ∀ a (ha : a < 18432), a = 128 * q.val + l.val → iblk m c 2 ⟨n, hn⟩ (ix3 (n0 := 1) (n1 := 128) (n2 := 18432) 0 s ⟨a, ha⟩)
      = iblk m c 2 ⟨n, hn⟩ (ix3 (n0 := 1) (n1 := 128) (n2 := 18432) 0 s (col q l)) := by rintro a ha rfl; rfl
    exact k (256 * (q.val / 2) + (128 * (q.val % 2) + l.val)) _ (by omega)

/-- The sums after grid point `n`. -/
theorem dgAcc_ix (q : Fin 144) (l : Fin 128) : ∀ (n : ℕ) (hn : n < cfg0.N),
    dgAcc m c n hn (dgAt q l) = ∑ k ∈ Finset.range (n + 1), dgT m c k q l
  | 0, hn => by
    rw [Finset.sum_range_one]
    exact (dgV_ix m c 0 hn (fun _ => 0) q l).trans (zero_add _)
  | n + 1, hn => by
    rw [Finset.sum_range_succ, ← dgAcc_ix q l n (Nat.lt_of_succ_lt hn)]
    exact dgV_ix m c (n + 1) hn _ q l

/-- The gradient of the gain at an index. -/
theorem dgA_ix (q : Fin 144) (l : Fin 128) :
    dgammaG (dgAcc m c 15 t15.isLt) (igG m c) (ix2 (n0 := 144) (n1 := 128) q l)
      = kDg (yA m c) (dA m c) (sA m c) (dsA m c) (igG m c) q l := by
  refine congrArg₂ (· * ·) ((dgAcc_ix m c q l 15 t15.isLt).trans ?_) rfl
  rw [Finset.sum_range, sum_rows 2 8 16 rfl]
  refine Finset.sum_congr rfl fun b _ => ?_
  rw [sum_rows 8 128 1024 rfl]
  refine Finset.sum_congr rfl fun u _ => ?_
  have hb := b.isLt
  have hu := u.isLt
  have hN : cfg0.N = 16 := (by decide +kernel : grid0.N = 16)
  have hlt : 8 * b.val + u.val < cfg0.N := by omega
  show dgT m c (8 * b.val + u.val) q l = _
  unfold dgT
  rw [dif_pos hlt]
  obtain ⟨c0, c1⟩ := coords_val ⟨8 * b.val + u.val, hlt⟩
  refine Finset.sum_congr rfl fun s _ => ?_
  have f0 : grid0.coords ⟨8 * b.val + u.val, hlt⟩ 0 = b := by apply Fin.ext; rw [c0]; show (8 * b.val + u.val) / 8 = _; omega
  have f1 : tok ⟨8 * b.val + u.val, hlt⟩ s = ⟨128 * u.val + s.val, by omega⟩ := by
    apply Fin.ext
    show 128 * (grid0.coords ⟨8 * b.val + u.val, hlt⟩ 1).val + s.val = 128 * u.val + s.val
    rw [c1]; show 128 * ((8 * b.val + u.val) % 8) + s.val = _; omega
  exact congrArg₂ (fun (b : Fin 2) (t : Fin 1024) => sA m c (ix3 (n0 := 2) (n1 := 1024) (n2 := 144) b t q)
      * dsA m c (ix2 (n0 := 2) (n1 := 1024) b t)
    * (yA m c (ix3 (n0 := 2) (n1 := 1024) (n2 := 18432) b t (col q l))
      * dA m c (ix3 (n0 := 2) (n1 := 1024) (n2 := 18432) b t (col q l)))) f0 f1

end Cert.KernelIdeal.Val

end
-- ==== Proof.RefVal.lean ====
module

public import proofs.«01_k».proof.Proof.Closed
public import proofs.«01_k».proof.Proof.Gen.ReferenceIdeal.Value

@[expose] public section

set_option maxRecDepth 16384

noncomputable section

namespace Cert.ReferenceIdeal.Val

open Idealize.ShloMosaic Idealize.ShloMosaic.TcCoe Idealize.ShloMosaic.Tactic Idealize.ShloMosaic.Pipeline
open Cert.ReferenceIdeal Cert.ReferenceIdeal.Gen
open Cert.KernelIdeal.Val (col)

set_option maxHeartbeats 1000000

/-- The clamped gain, at an entry. -/
def gcV (g : EReal) : EReal :=
  if 0 ≤ g then max g (Ideal.ofBits .f32 0x3C23D70A#32) else min g (Ideal.ofBits .f32 0xBC23D70A#32)

theorem pay3_ix (v3 : S2x1024x18432.Idx → EReal) (v5 : S2x1024.Idx → EReal) (b : Fin 2) (t : Fin 1024) (j : Fin 18432) :
    k0_pay3 (F := Ideal) v3 v5 (ix3 (n0 := 2) (n1 := 1024) (n2 := 18432) b t j)
      = v3 (ix3 (n0 := 2) (n1 := 1024) (n2 := 18432) b t j) * v5 (ix2 (n0 := 2) (n1 := 1024) b t) := by
  pointwise [k0_pay3]

theorem pay4_ix (v0 : S2x1024x18432.Idx → EReal) (v2 : S2x1024x144.Idx → EReal) (v7 : S18432.Idx → EReal) (b : Fin 2) (t : Fin 1024) (q : Fin 144) (l : Fin 128) :
    k0_pay4 (F := Ideal) v0 v2 v7 (ix3 (n0 := 2) (n1 := 1024) (n2 := 18432) b t (col q l))
      = Ideal.div (v0 (ix3 (n0 := 2) (n1 := 1024) (n2 := 18432) b t (col q l)) * v2 (ix3 (n0 := 2) (n1 := 1024) (n2 := 144) b t q))
        (gcV (v7 (ix1 (n0 := 18432) (col q l)))) := by
  pointwise [k0_pay4, gcV]
  have k : ∀ (a : ℕ) (ha : a < 144), a = q.val → v2 (ix3 (n0 := 2) (n1 := 1024) (n2 := 144) b t ⟨a, ha⟩) = v2 (ix3 (n0 := 2) (n1 := 1024) (n2 := 144) b t q) := by
    rintro a ha rfl; rfl
  rw [k ((col q l).val / 128) _ (by show (128 * q.val + l.val) / 128 = _; omega)]

theorem pay5_ix (v0 : S2x1024x18432.Idx → EReal) (v2 : S2x1024x144.Idx → EReal) (v3 : S2x1024x18432.Idx → EReal) (v5 : S2x1024.Idx → EReal) (v7 : S18432.Idx → EReal) (b : Fin 2) (t : Fin 1024) (j : Fin 18432) :
    k0_pay5 (F := Ideal) v0 v2 v3 v5 v7 (ix3 (n0 := 2) (n1 := 1024) (n2 := 18432) b t j)
      = k0_pay3 (F := Ideal) v3 v5 (ix3 (n0 := 2) (n1 := 1024) (n2 := 18432) b t j) * v7 (ix1 (n0 := 18432) j)
        - k0_pay4 (F := Ideal) v0 v2 v7 (ix3 (n0 := 2) (n1 := 1024) (n2 := 18432) b t j)
          * Ideal.div (∑ x : Fin 18432, k0_pay3 (F := Ideal) v3 v5 (ix3 (n0 := 2) (n1 := 1024) (n2 := 18432) b t x) * v7 (ix1 (n0 := 18432) x)
              * k0_pay4 (F := Ideal) v0 v2 v7 (ix3 (n0 := 2) (n1 := 1024) (n2 := 18432) b t x)) (Ideal.ofBits .f32 0x46900000#32) := by
  unfold k0_pay5
  generalize k0_pay4 (F := Ideal) v0 v2 v7 = x
  generalize k0_pay3 (F := Ideal) v3 v5 = d
  pointwise []

theorem pay6_ix (v6 : S2x1024.Idx → EReal) (b : Fin 2) (t : Fin 1024) (j : Fin 18432) :
    k0_pay6 (F := Ideal) v6 (ix3 (n0 := 2) (n1 := 1024) (n2 := 18432) b t j) = v6 (ix2 (n0 := 2) (n1 := 1024) b t) := by
  pointwise [k0_pay6]

theorem pay1_ix (x y : S2x1024x18432.Idx → EReal) (i : S2x1024x18432.Idx) : k0_pay1 (F := Ideal) x y i = y i * x i := by
  pointwise [k0_pay1]

/-- A sum over the first two axes. -/
theorem reduce01 (f : S2x1024x18432.Idx → EReal) (j : Fin 18432) :
    Ideal.reduceAdd reduces_S2x1024x18432_S18432 f (ix1 (n0 := 18432) j)
      = ∑ b : Fin 2, ∑ t : Fin 1024, f (ix3 (n0 := 2) (n1 := 1024) (n2 := 18432) b t j) := by
  unfold Ideal.reduceAdd
  rw [← Fintype.sum_prod_type' (f := fun (b : Fin 2) (t : Fin 1024) => f (ix3 (n0 := 2) (n1 := 1024) (n2 := 18432) b t j))]
  have hd : ∀ i : S2x1024x18432.Idx, reduces_S2x1024x18432_S18432.drop i = ix1 (n0 := 18432) j ↔ i = ix3 (n0 := 2) (n1 := 1024) (n2 := 18432) (i 0) (i 1) j := by
    intro i
    have e0 : (reduces_S2x1024x18432_S18432.drop i 0).val = (i 2).val := rfl
    constructor
    · intro h
      funext a
      match a with
      | ⟨0, _⟩ => rfl
      | ⟨1, _⟩ => rfl
      | ⟨2, _⟩ => exact Fin.ext (e0.symm.trans (congrArg Fin.val (congrFun h 0)))
    · intro h
      funext a
      match a with
      | ⟨0, _⟩ => exact Fin.ext (e0.trans (congrArg Fin.val (congrFun h 2)))
  refine Finset.sum_nbij' (fun i => ((i 0, i 1) : Fin 2 × Fin 1024)) (fun p => ix3 (n0 := 2) (n1 := 1024) (n2 := 18432) p.1 p.2 j) ?_ ?_ ?_ ?_ ?_
  · intro i _; exact Finset.mem_univ _
  · intro p _; exact Finset.mem_filter.2 ⟨Finset.mem_univ _, (hd _).2 rfl⟩
  · intro i hi; exact ((hd i).1 (Finset.mem_filter.1 hi).2).symm
  · intro p _; rfl
  · intro i hi; exact congrArg f ((hd i).1 (Finset.mem_filter.1 hi).2)

theorem pay2_ix (x y : S2x1024x18432.Idx → EReal) (j : Fin 18432) :
    k0_pay2 (F := Ideal) x y (ix1 (n0 := 18432) j)
      = ∑ b : Fin 2, ∑ t : Fin 1024, x (ix3 (n0 := 2) (n1 := 1024) (n2 := 18432) b t j) * y (ix3 (n0 := 2) (n1 := 1024) (n2 := 18432) b t j) := by
  pointwise [k0_pay2]
  exact reduce01 _ j

end Cert.ReferenceIdeal.Val

end
-- ==== Proof.RefArr.lean ====
module

public import proofs.«01_k».proof.Proof.RefVal

@[expose] public section

set_option maxRecDepth 16384

noncomputable section

namespace Cert.ReferenceIdeal.Val

open Idealize.ShloMosaic Idealize.ShloMosaic.TcCoe Idealize.ShloMosaic.Tactic Idealize.ShloMosaic.Pipeline
open Cert.ReferenceIdeal Cert.ReferenceIdeal.Gen
open Cert.KernelIdeal.Val (col)

set_option maxHeartbeats 1000000

variable (m : (ℓ : Loc nD τ sig) → Buf (Elt Ideal) ℓ) (c : Dev nD)

theorem w_idx0 : ∀ t : Fin cfg0.N, ∀ a, win0_0.index t a = 0 := (by decide +kernel : ∀ t : Fin grid0.N, ∀ a, win0_0.index t a = 0)
theorem w_idx1 : ∀ t : Fin cfg0.N, ∀ a, win0_1.index t a = 0 := (by decide +kernel : ∀ t : Fin grid0.N, ∀ a, win0_1.index t a = 0)
theorem w_idx2 : ∀ t : Fin cfg0.N, ∀ a, win0_2.index t a = 0 := (by decide +kernel : ∀ t : Fin grid0.N, ∀ a, win0_2.index t a = 0)
theorem w_idx3 : ∀ t : Fin cfg0.N, ∀ a, win0_3.index t a = 0 := (by decide +kernel : ∀ t : Fin grid0.N, ∀ a, win0_3.index t a = 0)
theorem w_idx4 : ∀ t : Fin cfg0.N, ∀ a, win0_4.index t a = 0 := (by decide +kernel : ∀ t : Fin grid0.N, ∀ a, win0_4.index t a = 0)
theorem w_idx5 : ∀ t : Fin cfg0.N, ∀ a, win0_5.index t a = 0 := (by decide +kernel : ∀ t : Fin grid0.N, ∀ a, win0_5.index t a = 0)
theorem w_idx6 : ∀ t : Fin cfg0.N, ∀ a, win0_6.index t a = 0 := (by decide +kernel : ∀ t : Fin grid0.N, ∀ a, win0_6.index t a = 0)
theorem w_idx7 : ∀ t : Fin cfg0.N, ∀ a, win0_7.index t a = 0 := (by decide +kernel : ∀ t : Fin grid0.N, ∀ a, win0_7.index t a = 0)

theorem blk0 (t : Fin cfg0.N) : iblk m c 0 t = V m c main_v0 := by
  funext y
  blk_simp [iblk]
  congr 1; funext a; apply Fin.ext
  match a with
  | ⟨0, _⟩ => blk_simp [w_idx0]
  | ⟨1, _⟩ => blk_simp [w_idx0]
  | ⟨2, _⟩ => blk_simp [w_idx0]

theorem blk1 (t : Fin cfg0.N) : iblk m c 1 t = V m c main_arg1 := by
  funext y
  blk_simp [iblk]
  congr 1; funext a; apply Fin.ext
  match a with
  | ⟨0, _⟩ => blk_simp [w_idx1]
  | ⟨1, _⟩ => blk_simp [w_idx1]
  | ⟨2, _⟩ => blk_simp [w_idx1]

theorem blk2 (t : Fin cfg0.N) : iblk m c 2 t = V m c main_v1 := by
  funext y
  blk_simp [iblk]
  congr 1; funext a; apply Fin.ext
  match a with
  | ⟨0, _⟩ => blk_simp [w_idx2]
  | ⟨1, _⟩ => blk_simp [w_idx2]
  | ⟨2, _⟩ => blk_simp [w_idx2]

theorem blk3 (t : Fin cfg0.N) : iblk m c 3 t = V m c main_arg3 := by
  funext y
  blk_simp [iblk]
  congr 1; funext a; apply Fin.ext
  match a with
  | ⟨0, _⟩ => blk_simp [w_idx3]
  | ⟨1, _⟩ => blk_simp [w_idx3]

theorem blk4 (t : Fin cfg0.N) : iblk m c 4 t = V m c main_arg4 := by
  funext y
  blk_simp [iblk]
  congr 1; funext a; apply Fin.ext
  match a with
  | ⟨0, _⟩ => blk_simp [w_idx4]
  | ⟨1, _⟩ => blk_simp [w_idx4]

theorem blk5 (t : Fin cfg0.N) : iblk m c 5 t = V m c main_arg5 := by
  funext y
  blk_simp [iblk]
  congr 1; funext a; apply Fin.ext
  match a with
  | ⟨0, _⟩ => blk_simp [w_idx5]

/-- The gradient of the input, from whole arrays. -/
def rDx (Y D : S2x1024x18432.Idx → EReal) (S : S2x1024x144.Idx → EReal) (DS R : S2x1024.Idx → EReal) (g : S18432.Idx → EReal) : S2x1024x18432.Idx → EReal :=
  k0_pay1 (F := Ideal) (k0_pay5 (F := Ideal) Y S D DS g) (k0_pay6 (F := Ideal) R)

/-- The gradient of the gain, from whole arrays. -/
def rDg (Y D : S2x1024x18432.Idx → EReal) (S : S2x1024x144.Idx → EReal) (DS : S2x1024.Idx → EReal) (g : S18432.Idx → EReal) : S18432.Idx → EReal :=
  k0_pay2 (F := Ideal) (k0_pay3 (F := Ideal) D DS) (k0_pay4 (F := Ideal) Y S g)

theorem out6_eq (x0 x2 : S2x1024x18432.Idx → EReal) (x1 : S2x1024x144.Idx → EReal) (x3 x4 : S2x1024.Idx → EReal) (x5 : S18432.Idx → EReal) :
    out0_6 (F := Ideal) x0 x1 x2 x3 x4 x5 = rDx x0 x2 x1 x3 x4 x5 := by
  unfold out0_6 rDx
  have e0 : View.ld (Val := Elt Ideal) (e' := .fp8e4m3) x0 r0_0 = x0 := View.ld_unit_lit (Val := Elt Ideal) (e := .fp8e4m3) inb_S2x1024x18432_S2x1024x18432_0_0_0 x0 (by decide)
  have e1 : View.ld (Val := Elt Ideal) (e' := .f32) x1 r0_1 = x1 := View.ld_unit_lit (Val := Elt Ideal) (e := .f32) inb_S2x1024x144_S2x1024x144_0_0_0 x1 (by decide)
  have e2 : View.ld (Val := Elt Ideal) (e' := .fp8e5m2) x2 r0_0 = x2 := View.ld_unit_lit (Val := Elt Ideal) (e := .fp8e5m2) inb_S2x1024x18432_S2x1024x18432_0_0_0 x2 (by decide)
  have e3 : View.ld (Val := Elt Ideal) (e' := .f32) x3 r0_2 = x3 := View.ld_unit_lit (Val := Elt Ideal) (e := .f32) inb_S2x1024_S2x1024_0_0 x3 (by decide)
  have e4 : View.ld (Val := Elt Ideal) (e' := .f32) x4 r0_2 = x4 := View.ld_unit_lit (Val := Elt Ideal) (e := .f32) inb_S2x1024_S2x1024_0_0 x4 (by decide)
  have e5 : View.ld (Val := Elt Ideal) (e' := .f32) x5 r0_3 = x5 := View.ld_unit_lit (Val := Elt Ideal) (e := .f32) inb_S18432_S18432_0 x5 (by decide)
  rw [e0, e1, e2, e3, e4, e5]
  exact View.canon_cons_unit_lit _ _ [] (by decide)

theorem out7_eq (x0 x2 : S2x1024x18432.Idx → EReal) (x1 : S2x1024x144.Idx → EReal) (x3 x4 : S2x1024.Idx → EReal) (x5 : S18432.Idx → EReal) :
    out0_7 (F := Ideal) x0 x1 x2 x3 x4 x5 = rDg x0 x2 x1 x3 x5 := by
  unfold out0_7 rDg
  have e0 : View.ld (Val := Elt Ideal) (e' := .fp8e4m3) x0 r0_0 = x0 := View.ld_unit_lit (Val := Elt Ideal) (e := .fp8e4m3) inb_S2x1024x18432_S2x1024x18432_0_0_0 x0 (by decide)
  have e1 : View.ld (Val := Elt Ideal) (e' := .f32) x1 r0_1 = x1 := View.ld_unit_lit (Val := Elt Ideal) (e := .f32) inb_S2x1024x144_S2x1024x144_0_0_0 x1 (by decide)
  have e2 : View.ld (Val := Elt Ideal) (e' := .fp8e5m2) x2 r0_0 = x2 := View.ld_unit_lit (Val := Elt Ideal) (e := .fp8e5m2) inb_S2x1024x18432_S2x1024x18432_0_0_0 x2 (by decide)
  have e3 : View.ld (Val := Elt Ideal) (e' := .f32) x3 r0_2 = x3 := View.ld_unit_lit (Val := Elt Ideal) (e := .f32) inb_S2x1024_S2x1024_0_0 x3 (by decide)
  have e4 : View.ld (Val := Elt Ideal) (e' := .f32) x4 r0_2 = x4 := View.ld_unit_lit (Val := Elt Ideal) (e := .f32) inb_S2x1024_S2x1024_0_0 x4 (by decide)
  have e5 : View.ld (Val := Elt Ideal) (e' := .f32) x5 r0_3 = x5 := View.ld_unit_lit (Val := Elt Ideal) (e := .f32) inb_S18432_S18432_0 x5 (by decide)
  rw [e0, e1, e2, e3, e5]
  exact View.canon_cons_unit_lit _ _ [] (by decide)

theorem arr6 : (dats m 0 c).arrAt 6 cfg0.N = rDx (V m c main_v0) (V m c main_v1) (V m c main_arg1) (V m c main_arg3) (V m c main_arg4) (V m c main_arg5) := by
  refine (dats m 0 c).arrAt_eq_of_covers 6 _ (by decide +kernel) fun t hf y => ?_
  blk_simp
  rw [after0_6, blk0, blk1, blk2, blk3, blk4, blk5, out6_eq]
  refine congrArg (rDx _ _ _ _ _ _) ?_
  funext a; apply Fin.ext
  match a with
  | ⟨0, _⟩ => blk_simp [w_idx6]
  | ⟨1, _⟩ => blk_simp [w_idx6]
  | ⟨2, _⟩ => blk_simp [w_idx6]

theorem arr7 : (dats m 0 c).arrAt 7 cfg0.N = rDg (V m c main_v0) (V m c main_v1) (V m c main_arg1) (V m c main_arg3) (V m c main_arg5) := by
  refine (dats m 0 c).arrAt_eq_of_covers 7 _ (by decide +kernel) fun t hf y => ?_
  blk_simp
  rw [after0_7, blk0, blk1, blk2, blk3, blk4, blk5, out7_eq]
  refine congrArg (rDg _ _ _ _ _) ?_
  funext a; apply Fin.ext
  match a with
  | ⟨0, _⟩ => blk_simp [w_idx7]

end Cert.ReferenceIdeal.Val

end
-- ==== Proof.Alg.lean ====
module

public import proofs.«01_k».proof.Proof.Closed

@[expose] public section

set_option maxRecDepth 16384

noncomputable section

namespace Cert.KernelIdeal.Val

open Idealize.ShloMosaic Idealize.ShloMosaic.TcCoe Idealize.ShloMosaic.Tactic
open Cert.KernelIdeal

set_option maxHeartbeats 1000000

/-- A sum of reals, taken among the extended reals. -/
theorem coe_sum' {ι : Type} [Fintype ι] (f : ι → ℝ) : ∑ i, (f i : EReal) = ((∑ i, f i : ℝ) : EReal) := by
  classical
  have : ∀ s : Finset ι, ∑ i ∈ s, (f i : EReal) = ((∑ i ∈ s, f i : ℝ) : EReal) := by
    intro s
    induction s using Finset.induction with
    | empty => simp
    | insert a s ha ih => rw [Finset.sum_insert ha, Finset.sum_insert ha, ih, EReal.coe_add]
  exact this _

/-- A real factor distributes over a difference with a real. -/
theorem coe_mul_sub_coe (r z : ℝ) (g : EReal) : (r : EReal) * (g - (z : EReal)) = (r : EReal) * g - ((r * z : ℝ) : EReal) := by
  induction g using EReal.rec with
  | coe g => rw [← EReal.coe_sub, ← EReal.coe_mul, ← EReal.coe_mul, ← EReal.coe_sub]; congr 1; ring
  | top =>
    rw [EReal.top_sub_coe]
    rcases lt_trichotomy r 0 with h | h | h
    · rw [EReal.coe_mul_top_of_neg h, EReal.bot_sub]
    · subst h; simp
    · rw [EReal.coe_mul_top_of_pos h, EReal.top_sub_coe]
  | bot =>
    rw [EReal.bot_sub]
    rcases lt_trichotomy r 0 with h | h | h
    · rw [EReal.coe_mul_bot_of_neg h, EReal.top_sub_coe]
    · subst h; simp
    · rw [EReal.coe_mul_bot_of_pos h, EReal.bot_sub]

/-- The gradient of the input as the reference computes it, with the division by the gain done. -/
def rDx0 (Y D : S2x1024x18432.Idx → EReal) (S : S2x1024x144.Idx → EReal) (DS R : S2x1024.Idx → EReal) (G IG : S144x128.Idx → EReal)
    (b : Fin 2) (t : Fin 1024) (q : Fin 144) (l : Fin 128) : EReal :=
  R (ix2 (n0 := 2) (n1 := 1024) b t) *
    (D (ix3 (n0 := 2) (n1 := 1024) (n2 := 18432) b t (col q l)) * DS (ix2 (n0 := 2) (n1 := 1024) b t) * G (ix2 (n0 := 144) (n1 := 128) q l)
      - Y (ix3 (n0 := 2) (n1 := 1024) (n2 := 18432) b t (col q l)) * S (ix3 (n0 := 2) (n1 := 1024) (n2 := 144) b t q) * IG (ix2 (n0 := 144) (n1 := 128) q l)
        * ((∑ q : Fin 144, ∑ l : Fin 128,
            D (ix3 (n0 := 2) (n1 := 1024) (n2 := 18432) b t (col q l)) * DS (ix2 (n0 := 2) (n1 := 1024) b t) * G (ix2 (n0 := 144) (n1 := 128) q l)
            * (Y (ix3 (n0 := 2) (n1 := 1024) (n2 := 18432) b t (col q l)) * S (ix3 (n0 := 2) (n1 := 1024) (n2 := 144) b t q) * IG (ix2 (n0 := 144) (n1 := 128) q l)))
          * ((1 / 18432 : ℝ) : EReal)))

theorem dx_alg (Y D : S2x1024x18432.Idx → EReal) (S : S2x1024x144.Idx → EReal) (DS R : S2x1024.Idx → EReal) (G IG : S144x128.Idx → EReal)
    (hY : ∀ i, ∃ a : ℝ, Y i = (a : EReal)) (hD : ∀ i, ∃ a : ℝ, D i = (a : EReal)) (hS : ∀ i, ∃ a : ℝ, S i = (a : EReal))
    (hDS : ∀ i, ∃ a : ℝ, DS i = (a : EReal)) (hR : ∀ i, ∃ a : ℝ, R i = (a : EReal))
    (hIG : ∀ i, ∃ a : ℝ, IG i = (a : EReal)) (hG : ∀ i, ∃ a : ℝ, G i * IG i = (a : EReal))
    (b : Fin 2) (t : Fin 1024) (q : Fin 144) (l : Fin 128) :
    kDx Y D S DS R G IG b t q l = rDx0 Y D S DS R G IG b t q l := by
  choose y hY using hY
  choose d hD using hD
  choose s hS using hS
  choose ds hDS using hDS
  choose r hR using hR
  choose ig hIG using hIG
  choose ρ hG using hG
  have hC : kC Y D S G IG b t = ((∑ q : Fin 144, (∑ l : Fin 128, ρ (ix2 (n0 := 144) (n1 := 128) q l)
      * (y (ix3 (n0 := 2) (n1 := 1024) (n2 := 18432) b t (col q l)) * d (ix3 (n0 := 2) (n1 := 1024) (n2 := 18432) b t (col q l))))
      * s (ix3 (n0 := 2) (n1 := 1024) (n2 := 144) b t q) : ℝ) : EReal) := by
    unfold kC
    rw [← coe_sum']
    refine Finset.sum_congr rfl fun q _ => ?_
    rw [EReal.coe_mul, ← coe_sum', hS]
    refine congrArg₂ (· * ·) (Finset.sum_congr rfl fun l _ => ?_) rfl
    rw [hG, hY, hD, EReal.coe_mul, EReal.coe_mul]
  have hC' : (∑ q : Fin 144, ∑ l : Fin 128,
            D (ix3 (n0 := 2) (n1 := 1024) (n2 := 18432) b t (col q l)) * DS (ix2 (n0 := 2) (n1 := 1024) b t) * G (ix2 (n0 := 144) (n1 := 128) q l)
            * (Y (ix3 (n0 := 2) (n1 := 1024) (n2 := 18432) b t (col q l)) * S (ix3 (n0 := 2) (n1 := 1024) (n2 := 144) b t q) * IG (ix2 (n0 := 144) (n1 := 128) q l)))
      = (((∑ q : Fin 144, (∑ l : Fin 128, ρ (ix2 (n0 := 144) (n1 := 128) q l)
      * (y (ix3 (n0 := 2) (n1 := 1024) (n2 := 18432) b t (col q l)) * d (ix3 (n0 := 2) (n1 := 1024) (n2 := 18432) b t (col q l))))
      * s (ix3 (n0 := 2) (n1 := 1024) (n2 := 144) b t q)) * ds (ix2 (n0 := 2) (n1 := 1024) b t) : ℝ) : EReal) := by
    rw [Finset.sum_mul, ← coe_sum']
    refine Finset.sum_congr rfl fun q _ => ?_
    rw [Finset.sum_mul, Finset.sum_mul, ← coe_sum']
    refine Finset.sum_congr rfl fun l _ => ?_
    have e : ∀ a b c x y z : EReal, a * b * c * (x * y * z) = c * z * (x * a) * y * b := by intros; ac_rfl
    rw [e, hG, hY, hD, hS, hDS]
    simp only [EReal.coe_mul]
  unfold kDx rDx0
  rw [hC, hC']
  generalize (∑ q : Fin 144, (∑ l : Fin 128, ρ (ix2 (n0 := 144) (n1 := 128) q l)
      * (y (ix3 (n0 := 2) (n1 := 1024) (n2 := 18432) b t (col q l)) * d (ix3 (n0 := 2) (n1 := 1024) (n2 := 18432) b t (col q l))))
      * s (ix3 (n0 := 2) (n1 := 1024) (n2 := 144) b t q)) = C
  rw [hY, hD, hS, hDS, hR, hIG]
  simp only [← EReal.coe_mul]
  rw [coe_mul_sub_coe]
  refine congrArg₂ (· - ·) ?_ ?_
  · simp only [EReal.coe_mul]; ac_rfl
  · congr 1; ring

theorem dg_alg (Y D : S2x1024x18432.Idx → EReal) (S : S2x1024x144.Idx → EReal) (DS : S2x1024.Idx → EReal) (IG : S144x128.Idx → EReal)
    (hY : ∀ i, ∃ a : ℝ, Y i = (a : EReal)) (hD : ∀ i, ∃ a : ℝ, D i = (a : EReal)) (hS : ∀ i, ∃ a : ℝ, S i = (a : EReal))
    (hDS : ∀ i, ∃ a : ℝ, DS i = (a : EReal))
    (hIG : ∀ i, ∃ a : ℝ, IG i = (a : EReal))
    (q : Fin 144) (l : Fin 128) :
    kDg Y D S DS IG q l = ∑ b : Fin 2, ∑ t : Fin 1024,
      (D (ix3 (n0 := 2) (n1 := 1024) (n2 := 18432) b t (col q l)) * DS (ix2 (n0 := 2) (n1 := 1024) b t))
      * (Y (ix3 (n0 := 2) (n1 := 1024) (n2 := 18432) b t (col q l)) * S (ix3 (n0 := 2) (n1 := 1024) (n2 := 144) b t q) * IG (ix2 (n0 := 144) (n1 := 128) q l)) := by
  choose y hY using hY
  choose d hD using hD
  choose s hS using hS
  choose ds hDS using hDS
  choose ig hIG using hIG
  unfold kDg
  simp only [hY, hD, hS, hDS, hIG, ← EReal.coe_mul, coe_sum']
  congr 1
  rw [Finset.sum_mul]
  refine Finset.sum_congr rfl fun b _ => ?_
  rw [Finset.sum_mul]
  refine Finset.sum_congr rfl fun t _ => ?_
  ring

end Cert.KernelIdeal.Val

end
-- ==== Proof.Words.lean ====
module

public import proofs.«01_k».proof.Proof.RefVal
public import proofs.«01_k».proof.Pre_finite

@[expose] public section

set_option maxRecDepth 16384

noncomputable section

namespace Cert.Words

open Idealize.ShloMosaic Idealize.ShloMosaic.TcCoe Idealize.ShloMosaic.Tactic
open Cert.KernelIdeal.Val (igV)
open Cert.ReferenceIdeal.Val (gcV)

set_option maxHeartbeats 1000000

/-- The width of a row as the reference's constant. -/
theorem ofBits_18432 : Ideal.ofBits .f32 0x46900000#32 = ((18432 : ℝ) : EReal) := by
  simp [Ideal.ofBits, Ideal.ieee]
  rw [← EReal.coe_mul]
  norm_num

/-- The smallest gain allowed. -/
theorem ofBits_lo : ∃ a : ℝ, 0 < a ∧ Ideal.ofBits .f32 0x3C23D70A#32 = (a : EReal) ∧ Ideal.ofBits .f32 0xBC23D70A#32 = ((-a : ℝ) : EReal) := by
  refine ⟨10737418 * 2 ^ (-30 : ℤ), by positivity, ?_, ?_⟩
  · simp [Ideal.ofBits, Ideal.ieee]
  · simp [Ideal.ofBits, Ideal.ieee]

theorem ofBits_inf : Ideal.ofBits .f32 0x7F800000#32 = ⊤ := by
  simp [Ideal.ofBits, Ideal.ieee]

/-- The clamped gain is not zero, its inverse is real, and so is the gain times that inverse. -/
theorem gc_facts (g : EReal) : gcV g ≠ 0 ∧ (∃ a : ℝ, (gcV g)⁻¹ = (a : EReal)) ∧ ∃ a : ℝ, g * (gcV g)⁻¹ = (a : EReal) := by
  obtain ⟨a, ha, h1, h2⟩ := ofBits_lo
  unfold gcV
  rw [h1, h2]
  induction g using EReal.rec with
  | coe g =>
    have : ∃ x : ℝ, x ≠ 0 ∧ (if (0 : EReal) ≤ (g : EReal) then max (g : EReal) (a : EReal) else min (g : EReal) ((-a : ℝ) : EReal)) = (x : EReal) := by
      by_cases h : 0 ≤ g
      · refine ⟨max g a, (lt_max_of_lt_right ha).ne', ?_⟩
        rw [if_pos (by exact_mod_cast h)]
        exact (EReal.coe_strictMono.monotone.map_max).symm
      · refine ⟨min g (-a), ?_, ?_⟩
        · have : min g (-a) ≤ -a := min_le_right _ _
          exact (lt_of_le_of_lt this (by linarith)).ne
        · rw [if_neg (by exact_mod_cast h)]
          exact (EReal.coe_strictMono.monotone.map_min).symm
    obtain ⟨x, hx, e⟩ := this
    rw [e]
    refine ⟨by exact_mod_cast hx, ⟨x⁻¹, (EReal.coe_inv x).symm⟩, ⟨g * x⁻¹, ?_⟩⟩
    rw [EReal.coe_mul, EReal.coe_inv]
  | top =>
    rw [if_pos le_top, max_eq_left le_top]
    refine ⟨EReal.top_ne_zero, ⟨0, ?_⟩, ⟨0, ?_⟩⟩ <;> simp
  | bot =>
    rw [if_neg (by simp), min_eq_left bot_le]
    refine ⟨EReal.bot_ne_zero, ⟨0, ?_⟩, ⟨0, ?_⟩⟩ <;> simp

theorem igV_eq (g : EReal) : igV g = (gcV g)⁻¹ := by
  have h : igV g = Ideal.div 1 (gcV g) := rfl
  rw [h]
  unfold Ideal.div
  rw [if_neg (gc_facts g).1, one_mul]

theorem div_gc (x g : EReal) : Ideal.div x (gcV g) = x * igV g := by
  rw [igV_eq]
  unfold Ideal.div
  rw [if_neg (gc_facts g).1]

theorem div_18432 (x : EReal) : Ideal.div x (Ideal.ofBits .f32 0x46900000#32) = x * ((1 / 18432 : ℝ) : EReal) := by
  rw [ofBits_18432]
  unfold Ideal.div
  rw [if_neg (by exact_mod_cast (by norm_num : (18432 : ℝ) ≠ 0)), one_div, EReal.coe_inv]

theorem igV_real (g : EReal) : ∃ a : ℝ, igV g = (a : EReal) := by
  rw [igV_eq]; exact (gc_facts g).2.1

theorem g_igV_real (g : EReal) : ∃ a : ℝ, g * igV g = (a : EReal) := by
  rw [igV_eq]; exact (gc_facts g).2.2

/-- A code of y that is no NaN is a real. -/
theorem e4m3_real (w : BitVec 8) (h : (w.setWidth 32 &&& 127#32) ≠ 127#32) : ∃ a : ℝ, Ideal.ofBits .fp8e4m3 w = (a : EReal) := by
  have k : ∀ w : BitVec 8, (w.setWidth 32 &&& 127#32) ≠ 127#32 → ¬ ((w.extractLsb' 3 4).toNat = 15 ∧ (w.extractLsb' 0 3).toNat = 7) := by
    decide +kernel
  show ∃ a : ℝ, Ideal.e4m3fn w = (a : EReal)
  unfold Ideal.e4m3fn
  dsimp only
  rw [if_neg (k w h)]
  split
  · exact ⟨_, rfl⟩
  · exact ⟨_, rfl⟩

/-- A code of dy that is neither an infinity nor a NaN is a real. -/
theorem e5m2_real (w : BitVec 8) (h : (w.setWidth 32 &&& 124#32) ≠ 124#32) : ∃ a : ℝ, Ideal.ofBits .fp8e5m2 w = (a : EReal) := by
  have k : ∀ w : BitVec 8, (w.setWidth 32 &&& 124#32) ≠ 124#32 → ¬ ((w.extractLsb' 2 5).toNat = 2 ^ 5 - 1) := by
    decide +kernel
  show ∃ a : ℝ, Ideal.ieee 5 2 w = (a : EReal)
  unfold Ideal.ieee
  dsimp only
  rw [if_neg (k w h)]
  split
  · exact ⟨_, rfl⟩
  · exact ⟨_, rfl⟩

theorem word_ne (a b : BitVec 32) (h : IntOp.cmpi .ne a b = 1#1) : a ≠ b := by
  rintro rfl
  simp [IntOp.cmpi] at h

theorem abs_lt_real (x : EReal) (h : BitVec.ofBool (decide (FloatOps.absf (F := Ideal) (φ := .f32) x < Ideal.ofBits .f32 0x7F800000#32)) = 1#1) :
    ∃ a : ℝ, x = (a : EReal) := by
  rw [ofBits_inf] at h
  induction x using EReal.rec with
  | coe a => exact ⟨a, rfl⟩
  | top => exfalso; simp [FloatOps.absf] at h
  | bot => exfalso; simp [FloatOps.absf] at h

theorem facts : Cert.Pre_finite.Facts := ⟨by decide, by decide, by decide, by decide⟩

section
variable [Cert.Pre_finite.Facts]
open Cert.Pre_finite

theorem fn_real (x0 : IVec S2x1024x18432 8) (x1 : S2x1024x144.Idx → EReal) (x2 : IVec S2x1024x18432 8) (x3 x4 : S2x1024.Idx → EReal) (x5 : S18432.Idx → EReal)
    (h0 : ∀ i, (fn (F := Ideal) x0 x1 x2 x3 x4 x5).1 i = 1#1)
    (h1 : ∀ i, (fn (F := Ideal) x0 x1 x2 x3 x4 x5).2.1 i = 1#1)
    (h2 : ∀ i, (fn (F := Ideal) x0 x1 x2 x3 x4 x5).2.2.1 i = 1#1)
    (h3 : ∀ i, (fn (F := Ideal) x0 x1 x2 x3 x4 x5).2.2.2.1 i = 1#1)
    (h4 : ∀ i, (fn (F := Ideal) x0 x1 x2 x3 x4 x5).2.2.2.2 i = 1#1) :
    (∀ i, ∃ a : ℝ, Ideal.ofBits .fp8e4m3 (x0 i) = (a : EReal)) ∧ (∀ i, ∃ a : ℝ, x1 i = (a : EReal))
      ∧ (∀ i, ∃ a : ℝ, Ideal.ofBits .fp8e5m2 (x2 i) = (a : EReal)) ∧ (∀ i, ∃ a : ℝ, x3 i = (a : EReal)) ∧ (∀ i, ∃ a : ℝ, x4 i = (a : EReal)) := by
  refine ⟨fun i => e4m3_real _ ?_, fun i => abs_lt_real _ ?_, fun i => e5m2_real _ ?_, fun i => abs_lt_real _ ?_, fun i => abs_lt_real _ ?_⟩
  · have h := h0 i
    pointwise [fn, fn_part1] at h
    exact word_ne _ _ h
  · have h := h1 i
    pointwise [fn, fn_part1] at h
    exact h
  · have h := h2 i
    pointwise [fn, fn_part1] at h
    exact word_ne _ _ h
  · have h := h3 i
    pointwise [fn, fn_part1] at h
    exact h
  · have h := h4 i
    pointwise [fn, fn_part1] at h
    exact h
end

end Cert.Words

end
-- ==== Proof.Final.lean ====
module

public import proofs.«01_k».proof.Proof.RefArr
public import proofs.«01_k».proof.Proof.Alg
public import proofs.«01_k».proof.Proof.Words

@[expose] public section

set_option maxRecDepth 16384

noncomputable section

namespace Cert.ReferenceIdeal.Val

open Idealize.ShloMosaic Idealize.ShloMosaic.TcCoe Idealize.ShloMosaic.Tactic Idealize.ShloMosaic.Pipeline
open Cert.ReferenceIdeal Cert.ReferenceIdeal.Gen
open Cert.KernelIdeal.Val (col igV rDx0 kDx kDg sum_rows dx_alg dg_alg)
open Cert.Words

set_option maxHeartbeats 1000000

variable (Y D : S2x1024x18432.Idx → EReal) (S : S2x1024x144.Idx → EReal) (DS R : S2x1024.Idx → EReal) (g : S18432.Idx → EReal)

/-- The gain in rows of 128. -/
def gRows (y : Cert.KernelIdeal.S144x128.Idx) : EReal := g (ix1 (n0 := 18432) (col (y 0) (y 1)))

/-- The inverse of the clamped gain in rows of 128. -/
def igRows (y : Cert.KernelIdeal.S144x128.Idx) : EReal := igV (gRows g y)

theorem rDx_ix (b : Fin 2) (t : Fin 1024) (q : Fin 144) (l : Fin 128) :
    rDx Y D S DS R g (ix3 (n0 := 2) (n1 := 1024) (n2 := 18432) b t (col q l)) = rDx0 Y D S DS R (gRows g) (igRows g) b t q l := by
  unfold rDx rDx0
  rw [pay1_ix, pay6_ix, pay5_ix, pay3_ix, pay4_ix, div_18432, div_gc, sum_rows 144 128 18432 rfl]
  refine congrArg₂ (· * ·) rfl (congrArg₂ (· - ·) rfl (congrArg₂ (· * ·) rfl (congrArg₂ (· * ·) ?_ rfl)))
  refine Finset.sum_congr rfl fun q _ => Finset.sum_congr rfl fun l _ => ?_
  have h := pay4_ix Y S g b t q l
  rw [div_gc] at h
  exact congrArg₂ (· * ·) (congrArg₂ (· * ·) (pay3_ix D DS b t (col q l)) rfl) h

theorem rDg_ix (q : Fin 144) (l : Fin 128) :
    rDg Y D S DS g (ix1 (n0 := 18432) (col q l)) = ∑ b : Fin 2, ∑ t : Fin 1024,
      (D (ix3 (n0 := 2) (n1 := 1024) (n2 := 18432) b t (col q l)) * DS (ix2 (n0 := 2) (n1 := 1024) b t))
      * (Y (ix3 (n0 := 2) (n1 := 1024) (n2 := 18432) b t (col q l)) * S (ix3 (n0 := 2) (n1 := 1024) (n2 := 144) b t q)
        * igRows g (ix2 (n0 := 144) (n1 := 128) q l)) := by
  unfold rDg
  rw [pay2_ix]
  refine Finset.sum_congr rfl fun b _ => Finset.sum_congr rfl fun t _ => ?_
  have h := pay4_ix Y S g b t q l
  rw [div_gc] at h
  exact congrArg₂ (· * ·) (pay3_ix D DS b t (col q l)) h

variable (hY : ∀ i, ∃ a : ℝ, Y i = (a : EReal)) (hD : ∀ i, ∃ a : ℝ, D i = (a : EReal)) (hS : ∀ i, ∃ a : ℝ, S i = (a : EReal))
    (hDS : ∀ i, ∃ a : ℝ, DS i = (a : EReal)) (hR : ∀ i, ∃ a : ℝ, R i = (a : EReal))

include hY hD hS hDS hR in
/-- The two gradients of the input agree. -/
theorem dx_agree (b : Fin 2) (t : Fin 1024) (q : Fin 144) (l : Fin 128) :
    kDx Y D S DS R (gRows g) (igRows g) b t q l = rDx Y D S DS R g (ix3 (n0 := 2) (n1 := 1024) (n2 := 18432) b t (col q l)) := by
  rw [rDx_ix]
  exact dx_alg Y D S DS R (gRows g) (igRows g) hY hD hS hDS hR (fun i => igV_real _) (fun i => g_igV_real _) b t q l

include hY hD hS hDS in
/-- The two gradients of the gain agree. -/
theorem dg_agree (q : Fin 144) (l : Fin 128) :
    kDg Y D S DS (igRows g) q l = rDg Y D S DS g (ix1 (n0 := 18432) (col q l)) := by
  rw [rDg_ix]
  exact dg_alg Y D S DS (igRows g) hY hD hS hDS (fun i => igV_real _) q l

end Cert.ReferenceIdeal.Val

namespace Cert.ReferenceIdeal.Val

open Idealize.ShloMosaic Idealize.ShloMosaic.TcCoe Idealize.ShloMosaic.Tactic Idealize.ShloMosaic.Pipeline
open Cert.ReferenceIdeal Cert.ReferenceIdeal.Gen

variable (m : (ℓ : Loc nD τ sig) → Buf (Elt Ideal) ℓ) (c : Dev nD)

theorem V_v0 (i : S2x1024x18432.Idx) : V m c main_v0 i = Ideal.ofBits .fp8e4m3 (m ((c : Thread nD τ).loc main_arg0) i) := by
  entry_read
  rfl

theorem V_v1 (i : S2x1024x18432.Idx) : V m c main_v1 i = Ideal.ofBits .fp8e5m2 (m ((c : Thread nD τ).loc main_arg2) i) := by
  entry_read
  rfl

end Cert.ReferenceIdeal.Val

namespace Cert.KernelIdeal.Val

open Idealize.ShloMosaic Idealize.ShloMosaic.TcCoe Idealize.ShloMosaic.Tactic Idealize.ShloMosaic.Pipeline
open Cert.KernelIdeal Cert.KernelIdeal.Gen

variable (m : (ℓ : Loc nD τ sig) → Buf (Elt Ideal) ℓ) (c : Dev nD)

theorem yA_eq (i : S2x1024x18432.Idx) : yA m c i = Ideal.ofBits .fp8e4m3 (m ((c : Thread nD τ).loc main_arg0) i) := by
  unfold yA
  entry_read
  rfl

theorem dA_eq (i : S2x1024x18432.Idx) : dA m c i = Ideal.ofBits .fp8e5m2 (m ((c : Thread nD τ).loc main_arg2) i) := by
  unfold dA
  entry_read
  rfl

theorem gV_eq (y : S144x128.Idx) : gV m c y = Cert.ReferenceIdeal.Val.gRows (m ((c : Thread nD τ).loc main_arg5)) y := by
  unfold Cert.ReferenceIdeal.Val.gRows
  have e : gV m c = shapeCast (s := S18432) (α := EReal) S144x128 (m ((c : Thread nD τ).loc main_arg5)) shapeCasts_S18432_S144x128 := by
    unfold gV
    entry_read
    rfl
  rw [e]
  clear e
  generalize m ((c : Thread nD τ).loc main_arg5) = x
  change S18432.Idx → EReal at x
  rw [eq_ix2 y]
  pointwise []
  have k : ∀ (a : ℕ) (ha : a < 18432), a = 128 * (y 0).val + (y 1).val → x (ix1 (n0 := 18432) ⟨a, ha⟩) = x (ix1 (n0 := 18432) (col (y 0) (y 1))) := by
    rintro a ha rfl; rfl
  exact k ((y 0).val * 128 + (y 1).val) _ (by omega)

/-- The gradient of the gain in one row. -/
theorem flat_ix (x : S144x128.Idx → EReal) (q : Fin 144) (l : Fin 128) :
    shapeCast (s := S144x128) (α := EReal) S18432 x shapeCasts_S144x128_S18432 (ix1 (n0 := 18432) (col q l)) = x (ix2 (n0 := 144) (n1 := 128) q l) := by
  pointwise []
  have k : ∀ (a b : ℕ) (ha : a < 144) (hb : b < 128), a = q.val → b = l.val →
      x (ix2 (n0 := 144) (n1 := 128) ⟨a, ha⟩ ⟨b, hb⟩) = x (ix2 (n0 := 144) (n1 := 128) q l) := by
    rintro a b ha hb rfl rfl; rfl
  exact k ((col q l).val / 128) ((col q l).val % 128) _ _ (by show (128 * q.val + l.val) / 128 = _; omega)
    (by show (128 * q.val + l.val) % 128 = _; omega)

/-- What the line after the grid leaves for the gradient of the gain. -/
theorem tail_v4 : Pipeline.afterTail₀ cfgs (dats m) 0 (V0 m) [hostOps1] c main_v4
    = shapeCast (s := S144x128) (α := EReal) S18432 ((dats m 0 c).arrAt 7 cfg0.N) shapeCasts_S144x128_S18432 := by
  unfold Pipeline.afterTail₀
  have e : ∀ W : Valuation τ sig (Elt Ideal), StableHlo.after [hostOps1 (F := Ideal)].flatten W (Proc.devRef .tc main_v4)
      = shapeCast (s := S144x128) (α := EReal) S18432 (W (Proc.devRef .tc main_v3_1)) shapeCasts_S144x128_S18432 := by
    intro W
    rfl
  rw [e]
  refine congrArg (fun z => shapeCast (s := S144x128) (α := EReal) S18432 z shapeCasts_S144x128_S18432) ?_
  exact Pipeline.withArrays_arr spec0 (by decide) c _ _ 7

/-- The run, with the two results named. -/
theorem run_val (g : Dev nD → PrngReg) : θ_run (defs (F := Ideal)) (onTc (τ := τ) (main (F := Ideal))) ⟨m, fun _ => 0, g⟩ fun r => ∀ c : Dev nD,
      r.2.mem ((c.tc : Thread nD τ).loc main_v3_0) = (dats m 0 c).arrAt 6 cfg0.N
      ∧ r.2.mem ((c.tc : Thread nD τ).loc main_v4)
        = shapeCast (s := S144x128) (α := EReal) S18432 ((dats m 0 c).arrAt 7 cfg0.N) shapeCasts_S144x128_S18432 :=
  (θ_run defs _ _).mono (fun r h c => ⟨(h c).1 6,
    ((h c).2 main_v4 (Pipeline.mem_restRefs_of main_v4 (by decide) (by decide))).trans (tail_v4 m c)⟩) (run_main m g)

open Cert.ReferenceIdeal.Val (gRows igRows rDx rDg dx_agree dg_agree)

theorem gV_fun : gV m c = gRows (m ((c : Thread nD τ).loc main_arg5)) := funext fun y => gV_eq m c y

theorem igG_fun : igG m c = igRows (m ((c : Thread nD τ).loc main_arg5)) := by
  funext y
  exact congrArg igV (gV_eq m c y)

theorem gain_real (y : S144x128.Idx) : ∃ a : ℝ, gV m c y * igG m c y = (a : EReal) := Cert.Words.g_igV_real _

section
variable (hY : ∀ i, ∃ a : ℝ, yA m c i = (a : EReal)) (hD : ∀ i, ∃ a : ℝ, dA m c i = (a : EReal)) (hS : ∀ i, ∃ a : ℝ, sA m c i = (a : EReal))
    (hDS : ∀ i, ∃ a : ℝ, dsA m c i = (a : EReal)) (hR : ∀ i, ∃ a : ℝ, rA m c i = (a : EReal))

include hY hD hS hDS hR in
/-- The gradient of the input is the reference's. -/
theorem res_dx : (dats m 0 c).arrAt 6 cfg0.N
    = rDx (yA m c) (dA m c) (sA m c) (dsA m c) (rA m c) (m ((c : Thread nD τ).loc main_arg5)) := by
  rw [arr6]
  funext y
  obtain ⟨b, t, j, rfl⟩ : ∃ (b : Fin 2) (t : Fin 1024) (j : Fin 18432), y = ix3 (n0 := 2) (n1 := 1024) (n2 := 18432) b t j := ⟨y 0, y 1, y 2, eq_ix3 y⟩
  obtain ⟨q, l, rfl⟩ : ∃ (q : Fin 144) (l : Fin 128), j = col q l :=
    ⟨⟨j.val / 128, by omega⟩, ⟨j.val % 128, by omega⟩, by apply Fin.ext; show j.val = 128 * (j.val / 128) + j.val % 128; omega⟩
  rw [dxA_ix m c (gain_real m c), gV_fun, igG_fun]
  exact dx_agree _ _ _ _ _ _ hY hD hS hDS hR b t q l

include hY hD hS hDS in
/-- The gradient of the gain is the reference's. -/
theorem res_dg : shapeCast (s := S144x128) (α := EReal) S18432 ((dats m 0 c).arrAt 7 cfg0.N) shapeCasts_S144x128_S18432
    = rDg (yA m c) (dA m c) (sA m c) (dsA m c) (m ((c : Thread nD τ).loc main_arg5)) := by
  rw [arr7 m c (gain_real m c)]
  funext y
  obtain ⟨j, rfl⟩ : ∃ (j : Fin 18432), y = ix1 (n0 := 18432) j := ⟨y 0, eq_ix1 y⟩
  obtain ⟨q, l, rfl⟩ : ∃ (q : Fin 144) (l : Fin 128), j = col q l :=
    ⟨⟨j.val / 128, by omega⟩, ⟨j.val % 128, by omega⟩, by apply Fin.ext; show j.val = 128 * (j.val / 128) + j.val % 128; omega⟩
  rw [flat_ix, dgA_ix, igG_fun]
  exact dg_agree _ _ _ _ _ hY hD hS hDS q l
end

end Cert.KernelIdeal.Val

end
-- ==== Proof.lean ====
/- The claims of this certificate, from the frames of the three programs, the rule of the named constant and the equality
   of the two results. -/
module

public import proofs.«01_k».proof.Defs
public import proofs.«01_k».proof.Proof.KernelFrame
public import proofs.«01_k».proof.Proof.KernelIdealFrame
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Final
public import Idealize.ShloMosaic.Adequacy
public import Idealize.ShloMosaic.Init

@[expose] public section

noncomputable section

namespace Cert.Proof

open Idealize.ShloMosaic Idealize.SL.Sem Cert.Kernel

open Cert.KernelIdeal.Val in
/-- The idealized kernel and the idealized reference end with the same two gradients. -/
theorem algebraic [hPre_finite : Cert.Pre_finite.Facts] :
    letI := Cert.KernelIdeal.Gen.facts; letI := Cert.ReferenceIdeal.Gen.facts
    algebraic_KernelIdeal_ReferenceIdeal_pre_finite := by
  intro m g m' g' hpre hagree
  have hreal : ∀ c : Dev Cert.KernelIdeal.nD, (∀ i, ∃ a : ℝ, yA m c i = (a : EReal)) ∧ (∀ i, ∃ a : ℝ, sA m c i = (a : EReal))
      ∧ (∀ i, ∃ a : ℝ, dA m c i = (a : EReal)) ∧ (∀ i, ∃ a : ℝ, dsA m c i = (a : EReal)) ∧ (∀ i, ∃ a : ℝ, rA m c i = (a : EReal)) := by
    intro c
    obtain ⟨p0, p1, p2, p3, p4⟩ := hpre c
    obtain ⟨r0, r1, r2, r3, r4⟩ := Cert.Words.fn_real _ _ _ _ _ _ (fun i => congrFun p0 i) (fun i => congrFun p1 i) (fun i => congrFun p2 i)
      (fun i => congrFun p3 i) (fun i => congrFun p4 i)
    refine ⟨fun i => ?_, fun i => ?_, fun i => ?_, fun i => ?_, fun i => ?_⟩
    · rw [yA_eq]; exact r0 i
    · rw [show sA m c = _ from Cert.KernelIdeal.Gen.V_main_arg1 m c]; exact r1 i
    · rw [dA_eq]; exact r2 i
    · rw [show dsA m c = _ from Cert.KernelIdeal.Gen.V_main_arg3 m c]; exact r3 i
    · rw [show rA m c = _ from Cert.KernelIdeal.Gen.V_main_arg4 m c]; exact r4 i
  have e0 : ∀ c, Cert.ReferenceIdeal.Gen.V m' c Cert.ReferenceIdeal.main_v0 = yA m c := by
    intro c; funext i
    rw [yA_eq, ← (hagree c).1]; exact Cert.ReferenceIdeal.Val.V_v0 m' c i
  have e1 : ∀ c, Cert.ReferenceIdeal.Gen.V m' c Cert.ReferenceIdeal.main_v1 = dA m c := by
    intro c; funext i
    rw [dA_eq, ← (hagree c).2.2.1]; exact Cert.ReferenceIdeal.Val.V_v1 m' c i
  have e2 : ∀ c, Cert.ReferenceIdeal.Gen.V m' c Cert.ReferenceIdeal.main_arg1 = sA m c := fun c =>
    (Cert.ReferenceIdeal.Gen.V_main_arg1 m' c).trans ((hagree c).2.1.trans (Cert.KernelIdeal.Gen.V_main_arg1 m c).symm)
  have e3 : ∀ c, Cert.ReferenceIdeal.Gen.V m' c Cert.ReferenceIdeal.main_arg3 = dsA m c := fun c =>
    (Cert.ReferenceIdeal.Gen.V_main_arg3 m' c).trans ((hagree c).2.2.2.1.trans (Cert.KernelIdeal.Gen.V_main_arg3 m c).symm)
  have e4 : ∀ c, Cert.ReferenceIdeal.Gen.V m' c Cert.ReferenceIdeal.main_arg4 = rA m c := fun c =>
    (Cert.ReferenceIdeal.Gen.V_main_arg4 m' c).trans ((hagree c).2.2.2.2.1.trans (Cert.KernelIdeal.Gen.V_main_arg4 m c).symm)
  have e5 : ∀ c, Cert.ReferenceIdeal.Gen.V m' c Cert.ReferenceIdeal.main_arg5 = m (c.tc.loc Cert.KernelIdeal.main_arg5) := fun c =>
    (Cert.ReferenceIdeal.Gen.V_main_arg5 m' c).trans (hagree c).2.2.2.2.2
  refine ⟨fun c => Cert.ReferenceIdeal.Val.rDx (yA m c) (dA m c) (sA m c) (dsA m c) (rA m c) (m (c.tc.loc Cert.KernelIdeal.main_arg5)),
    fun c => Cert.ReferenceIdeal.Val.rDg (yA m c) (dA m c) (sA m c) (dsA m c) (m (c.tc.loc Cert.KernelIdeal.main_arg5)), ?_, ?_⟩
  · refine (θ_run _ _ _).mono ?_ (θ_run_and (run_val m g) (Cert.KernelIdeal.Gen.unchanged m g))
    intro r h c
    obtain ⟨hY, hS, hD, hDS, hR⟩ := hreal c
    exact ⟨(h.1 c).1.trans (res_dx m c hY hD hS hDS hR), (h.1 c).2.trans (res_dg m c hY hD hS hDS), h.2 c⟩
  · refine (θ_run _ _ _).mono ?_ (Cert.ReferenceIdeal.Value.run_blocks m' g')
    intro r h c
    refine ⟨(h c).1.trans ?_, (h c).2.1.trans ?_, (h c).2.2⟩
    · rw [Cert.ReferenceIdeal.Val.arr6, e0, e1, e2, e3, e4, e5]
    · rw [Cert.ReferenceIdeal.Val.arr7, e0, e1, e2, e3, e5]

/-- All three programs run and leave their arguments and semaphores as they were, the one named constant of the
    idealized kernel is the number that the printed word stands for, and on finite inputs the idealized kernel and the
    idealized reference end with the same two gradients. -/
theorem claim : Cert.Claim := ⟨Cert.Kernel.Gen.facts, Cert.KernelIdeal.Gen.facts, Cert.ReferenceIdeal.Gen.facts, Cert.Words.facts,
  fun m g _ => Cert.Kernel.Gen.frame m g, fun m g _ => Cert.KernelIdeal.Gen.frame m g,
  fun m g _ => Cert.KernelIdeal.Gen.frame m g,
  fun m g _ => Cert.ReferenceIdeal.Gen.frame m g, fun m g _ => Cert.ReferenceIdeal.Gen.frame m g,
  IdealRules.named_const.statement Cert.KernelIdeal.κ "inv_d" .f32 0x38638E39#32 ((1 / 18432 : ℝ) : EReal) rfl,
  letI := Cert.Words.facts; algebraic⟩

end Cert.Proof

end
